-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S2x64x768 : Shape := ⟨3, ![2, 64, 768]⟩
abbrev S2x768 : Shape := ⟨2, ![2, 768]⟩
abbrev S2x369 : Shape := ⟨2, ![2, 369]⟩
abbrev S768x1536 : Shape := ⟨2, ![768, 1536]⟩
abbrev S768 : Shape := ⟨1, ![768]⟩
abbrev S3072x768 : Shape := ⟨2, ![3072, 768]⟩
abbrev S3072 : Shape := ⟨1, ![3072]⟩
abbrev S768x768 : Shape := ⟨2, ![768, 768]⟩
abbrev S2 : Shape := ⟨1, ![2]⟩
abbrev S12x768 : Shape := ⟨2, ![12, 768]⟩
abbrev S_ : Shape := ⟨0, ![]⟩
abbrev S768x1 : Shape := ⟨2, ![768, 1]⟩

class Facts : Prop where
  pads_S2x369_S768x768_07660_03990 : S2x369.Pads (![0, 0] : Fin 2 → Nat) ![766, 399] ![0, 0] S768x768
  h_S_ : 0 < S_.numel
  bcast_S_S768x768 : S_.BroadcastsInDim S768x768 (![] : Fin 0 → Fin S768x768.rank)
  bcast_S_S768 : S_.BroadcastsInDim S768 (![] : Fin 0 → Fin S768.rank)
  bcast_S768_S768x1_0 : S768.BroadcastsInDim S768x1 (![0] : Fin 1 → Fin S768x1.rank)
  bcast_S768x1_S768x768_0_1 : S768x1.BroadcastsInDim S768x768 (![0, 1] : Fin 2 → Fin S768x768.rank)

variable [Facts]

def fn_pad {F : FTy → Type} [FloatOps F] (arg0 : FVec F S2x369 .f32) (arg1 : IVec S_ 32) : FVec F S768x768 .f32 :=
  let v0 : FVec F S_ .f32 := sitofp .f32 arg1
  let v1 : FVec F S768x768 .f32 := (fun x v => pad S768x768 ![0, 0] ![766, 399] ![0, 0] x v pads_S2x369_S768x768_07660_03990 h_S_) arg0 v0
  v1

def fn_part1 {F : FTy → Type} [FloatOps F] (main_v17 : IVec S768x768 1) (main_v18 : FVec F S768 .f32) : IVec S768x768 1 :=
  let main_cst_3 : FVec F S_ .f32 := constant S_ .f32 0x7F800000#32
  let main_v19 : FVec F S768 .f32 := broadcastInDim S768 ![] bcast_S_S768 main_cst_3
  let main_v20 : IVec S768 1 := cmpf .olt main_v18 main_v19
  let main_v21 : IVec S768x1 1 := broadcastInDim S768x1 ![0] bcast_S768_S768x1_0 main_v20
  let main_v22 : IVec S768x768 1 := broadcastInDim S768x768 ![0, 1] bcast_S768x1_S768x768_0_1 main_v21
  let main_v23 : IVec S768x768 1 := andi main_v17 main_v22
  main_v23

def fn {F : FTy → Type} [FloatOps F] (main_arg0 : FVec F S2x64x768 .f32) (main_arg1 : FVec F S2x768 .f32) (main_arg2 : FVec F S2x369 .f32) (main_arg3 : FVec F S768x1536 .f32) (main_arg4 : FVec F S768 .f32) (main_arg5 : FVec F S3072x768 .f32) (main_arg6 : FVec F S3072x768 .f32) (main_arg7 : FVec F S3072 .f32) (main_arg8 : FVec F S3072 .f32) (main_arg9 : FVec F S768x768 .f32) (main_arg10 : FVec F S768 .f32) (main_arg11 : FVec F S768x768 .f32) (main_arg12 : FVec F S768 .f32) (main_arg13 : FVec F S768x768 .f32) (main_arg14 : FVec F S768 .f32) (main_arg15 : FVec F S768x768 .f32) (main_arg16 : FVec F S768 .f32) (main_arg17 : FVec F S768 .f32) (main_arg18 : FVec F S768 .f32) (main_arg19 : FVec F S2x768 .f32) (main_arg20 : FVec F S2 .f32) (main_arg21 : FVec F S12x768 .f32) (main_arg22 : FVec F S768x768 .f32) (main_arg23 : FVec F S768 .f32) (main_arg24 : FVec F S768x768 .f32) (main_arg25 : FVec F S768 .f32) (main_arg26 : FVec F S768x1536 .f32) (main_arg27 : FVec F S768 .f32) : IVec S768x768 1 :=
  let main_c : IVec S_ 32 := constantI S_ 32 0#32
  let main_v0 : FVec F S768x768 .f32 := fn_pad (F := F) main_arg2 main_c
  let main_v1 : FVec F S768x768 .f32 := Host.absf main_v0
  let main_cst : FVec F S_ .f32 := constant S_ .f32 0x7F800000#32
  let main_v2 : FVec F S768x768 .f32 := broadcastInDim S768x768 ![] bcast_S_S768x768 main_cst
  let main_v3 : IVec S768x768 1 := cmpf .olt main_v1 main_v2
  let main_v4 : FVec F S768x768 .f32 := Host.absf main_arg9
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_v7 : IVec S768x768 1 := andi main_v3 main_v6
  let main_v8 : FVec F S768x768 .f32 := Host.absf main_arg11
  let main_cst_1 : FVec F S_ .f32 := constant S_ .f32 0x7F800000#32
  let main_v9 : FVec F S768x768 .f32 := broadcastInDim S768x768 ![] bcast_S_S768x768 main_cst_1
  let main_v10 : IVec S768x768 1 := cmpf .olt main_v8 main_v9
  let main_v11 : IVec S768x768 1 := andi main_v7 main_v10
  let main_v12 : FVec F S768 .f32 := Host.absf main_arg10
  let main_cst_2 : FVec F S_ .f32 := constant S_ .f32 0x7F800000#32
  let main_v13 : FVec F S768 .f32 := broadcastInDim S768 ![] bcast_S_S768 main_cst_2
  let main_v14 : IVec S768 1 := cmpf .olt main_v12 main_v13
  let main_v15 : IVec S768x1 1 := broadcastInDim S768x1 ![0] bcast_S768_S768x1_0 main_v14
  let main_v16 : IVec S768x768 1 := broadcastInDim S768x768 ![0, 1] bcast_S768x1_S768x768_0_1 main_v15
  let main_v17 : IVec S768x768 1 := andi main_v11 main_v16
  let main_v18 : FVec F S768 .f32 := Host.absf main_arg12
  fn_part1 (F := F) main_v17 main_v18
-- ==== Kernel.lean ====
abbrev S2x64x768 : Shape := ⟨3, ![2, 64, 768]⟩
abbrev S2x768 : Shape := ⟨2, ![2, 768]⟩
abbrev S2x369 : Shape := ⟨2, ![2, 369]⟩
abbrev S768x1536 : Shape := ⟨2, ![768, 1536]⟩
abbrev S768 : Shape := ⟨1, ![768]⟩
abbrev S3072x768 : Shape := ⟨2, ![3072, 768]⟩
abbrev S3072 : Shape := ⟨1, ![3072]⟩
abbrev S768x768 : Shape := ⟨2, ![768, 768]⟩
abbrev S2 : Shape := ⟨1, ![2]⟩
abbrev S12x768 : Shape := ⟨2, ![12, 768]⟩
abbrev S384x384 : Shape := ⟨2, ![384, 384]⟩
abbrev S1x3072 : Shape := ⟨2, ![1, 3072]⟩
abbrev S2x1x768 : Shape := ⟨3, ![2, 1, 768]⟩
abbrev S1x768 : Shape := ⟨2, ![1, 768]⟩
abbrev S2x384x1x3072 : Shape := ⟨4, ![2, 384, 1, 3072]⟩
abbrev S1x64x768 : Shape := ⟨3, ![1, 64, 768]⟩
abbrev S1x1x768 : Shape := ⟨3, ![1, 1, 768]⟩
abbrev S1x384x1x3072 : Shape := ⟨4, ![1, 384, 1, 3072]⟩
abbrev S64x768 : Shape := ⟨2, ![64, 768]⟩
abbrev S63x768 : Shape := ⟨2, ![63, 768]⟩
abbrev S62x768 : Shape := ⟨2, ![62, 768]⟩
abbrev S61x768 : Shape := ⟨2, ![61, 768]⟩
abbrev S3x768 : Shape := ⟨2, ![3, 768]⟩
abbrev S60x768 : Shape := ⟨2, ![60, 768]⟩
abbrev S4x768 : Shape := ⟨2, ![4, 768]⟩
abbrev S59x768 : Shape := ⟨2, ![59, 768]⟩
abbrev S5x768 : Shape := ⟨2, ![5, 768]⟩
abbrev S384x768 : Shape := ⟨2, ![384, 768]⟩
abbrev S384x3072 : Shape := ⟨2, ![384, 3072]⟩
abbrev S768x3072 : Shape := ⟨2, ![768, 3072]⟩
abbrev S2x384x1x768 : Shape := ⟨4, ![2, 384, 1, 768]⟩
abbrev S1x384x1x768 : Shape := ⟨4, ![1, 384, 1, 768]⟩
abbrev S1x1x1x3072 : Shape := ⟨4, ![1, 1, 1, 3072]⟩
abbrev S1x1x1x768 : Shape := ⟨4, ![1, 1, 1, 768]⟩
abbrev S2x384x768 : Shape := ⟨3, ![2, 384, 768]⟩
abbrev S_ : Shape := ⟨0, ![]⟩
abbrev S2x384 : Shape := ⟨2, ![2, 384]⟩
abbrev S2x1x384 : Shape := ⟨3, ![2, 1, 384]⟩
abbrev S1x384x768 : Shape := ⟨3, ![1, 384, 768]⟩
abbrev S1x1x384 : Shape := ⟨3, ![1, 1, 384]⟩
abbrev S1x384 : Shape := ⟨2, ![1, 384]⟩
abbrev S384x64 : Shape := ⟨2, ![384, 64]⟩
abbrev S384 : Shape := ⟨1, ![384]⟩
abbrev S384x1 : Shape := ⟨2, ![384, 1]⟩
abbrev S128x768 : Shape := ⟨2, ![128, 768]⟩
abbrev S1 : Shape := ⟨1, ![1]⟩
abbrev S1x128 : Shape := ⟨2, ![1, 128]⟩
abbrev S2x384x128 : Shape := ⟨3, ![2, 384, 128]⟩
abbrev S1x384x128 : Shape := ⟨3, ![1, 384, 128]⟩
abbrev S384x128 : Shape := ⟨2, ![384, 128]⟩
abbrev S2x384x12x369 : Shape := ⟨4, ![2, 384, 12, 369]⟩
abbrev S1x8x768 : Shape := ⟨3, ![1, 8, 768]⟩
abbrev S1x8x12x369 : Shape := ⟨4, ![1, 8, 12, 369]⟩
abbrev S8x768 : Shape := ⟨2, ![8, 768]⟩
abbrev S12x384 : Shape := ⟨2, ![12, 384]⟩
abbrev S12x369 : Shape := ⟨2, ![12, 369]⟩
abbrev S1x1x12x369 : Shape := ⟨4, ![1, 1, 12, 369]⟩
abbrev S2x369x12x369 : Shape := ⟨4, ![2, 369, 12, 369]⟩
abbrev S2x369x2 : Shape := ⟨3, ![2, 369, 2]⟩

abbrev nBuf : Space → Nat
  | .hbm => 76
  | .vmem => 59
  | .smem => 0
  | _ => 0

abbrev bufTy : (tb : Table) → Fin (tcTables nBuf tb) → BufTy
  | .hbm, ⟨0, _⟩ => ⟨S2x64x768, .f32⟩
  | .hbm, ⟨1, _⟩ => ⟨S2x768, .f32⟩
  | .hbm, ⟨2, _⟩ => ⟨S2x369, .f32⟩
  | .hbm, ⟨3, _⟩ => ⟨S768x1536, .f32⟩
  | .hbm, ⟨4, _⟩ => ⟨S768, .f32⟩
  | .hbm, ⟨5, _⟩ => ⟨S3072x768, .f32⟩
  | .hbm, ⟨6, _⟩ => ⟨S3072x768, .f32⟩
  | .hbm, ⟨7, _⟩ => ⟨S3072, .f32⟩
  | .hbm, ⟨8, _⟩ => ⟨S3072, .f32⟩
  | .hbm, ⟨9, _⟩ => ⟨S768x768, .f32⟩
  | .hbm, ⟨10, _⟩ => ⟨S768, .f32⟩
  | .hbm, ⟨11, _⟩ => ⟨S768x768, .f32⟩
  | .hbm, ⟨12, _⟩ => ⟨S768, .f32⟩
  | .hbm, ⟨13, _⟩ => ⟨S768x768, .f32⟩
  | .hbm, ⟨14, _⟩ => ⟨S768, .f32⟩
  | .hbm, ⟨15, _⟩ => ⟨S768x768, .f32⟩
  | .hbm, ⟨16, _⟩ => ⟨S768, .f32⟩
  | .hbm, ⟨17, _⟩ => ⟨S768, .f32⟩
  | .hbm, ⟨18, _⟩ => ⟨S768, .f32⟩
  | .hbm, ⟨19, _⟩ => ⟨S2x768, .f32⟩
  | .hbm, ⟨20, _⟩ => ⟨S2, .f32⟩
  | .hbm, ⟨21, _⟩ => ⟨S12x768, .f32⟩
  | .hbm, ⟨22, _⟩ => ⟨S768x768, .f32⟩
  | .hbm, ⟨23, _⟩ => ⟨S768, .f32⟩
  | .hbm, ⟨24, _⟩ => ⟨S768x768, .f32⟩
  | .hbm, ⟨25, _⟩ => ⟨S768, .f32⟩
  | .hbm, ⟨26, _⟩ => ⟨S768x1536, .f32⟩
  | .hbm, ⟨27, _⟩ => ⟨S768, .f32⟩
  | .hbm, ⟨28, _⟩ => ⟨S384x384, .f32⟩
  | .hbm, ⟨29, _⟩ => ⟨S3072, .f32⟩
  | .hbm, ⟨30, _⟩ => ⟨S1x3072, .f32⟩
  | .hbm, ⟨31, _⟩ => ⟨S2x1x768, .f32⟩
  | .hbm, ⟨32, _⟩ => ⟨S1x768, .f32⟩
  | .hbm, ⟨33, _⟩ => ⟨S2x384x1x3072, .f32⟩
  | .hbm, ⟨34, _⟩ => ⟨S768x3072, .f32⟩
  | .hbm, ⟨35, _⟩ => ⟨S2x384x1x768, .f32⟩
  | .hbm, ⟨36, _⟩ => ⟨S2x384x768, .f32⟩
  | .hbm, ⟨37, _⟩ => ⟨S_, .i32⟩
  | .hbm, ⟨38, _⟩ => ⟨S_, .f32⟩
  | .hbm, ⟨39, _⟩ => ⟨S2x384, .f32⟩
  | .hbm, ⟨40, _⟩ => ⟨S_, .f32⟩
  | .hbm, ⟨41, _⟩ => ⟨S2x384, .f32⟩
  | .hbm, ⟨42, _⟩ => ⟨S2x384, .f32⟩
  | .hbm, ⟨43, _⟩ => ⟨S_, .f32⟩
  | .hbm, ⟨44, _⟩ => ⟨S2x384, .f32⟩
  | .hbm, ⟨45, _⟩ => ⟨S2x384, .f32⟩
  | .hbm, ⟨46, _⟩ => ⟨S2x1x384, .f32⟩
  | .hbm, ⟨47, _⟩ => ⟨S1x768, .f32⟩
  | .hbm, ⟨48, _⟩ => ⟨S1x768, .f32⟩
  | .hbm, ⟨49, _⟩ => ⟨S1x768, .f32⟩
  | .hbm, ⟨50, _⟩ => ⟨S1x768, .f32⟩
  | .hbm, ⟨51, _⟩ => ⟨S1x768, .f32⟩
  | .hbm, ⟨52, _⟩ => ⟨S1x768, .f32⟩
  | .hbm, ⟨53, _⟩ => ⟨S2x384x768, .f32⟩
  | .hbm, ⟨54, _⟩ => ⟨S_, .f32⟩
  | .hbm, ⟨55, _⟩ => ⟨S128x768, .f32⟩
  | .hbm, ⟨56, _⟩ => ⟨S_, .i32⟩
  | .hbm, ⟨57, _⟩ => ⟨S1, .i32⟩
  | .hbm, ⟨58, _⟩ => ⟨S128x768, .f32⟩
  | .hbm, ⟨59, _⟩ => ⟨S_, .f32⟩
  | .hbm, ⟨60, _⟩ => ⟨S1x128, .f32⟩
  | .hbm, ⟨61, _⟩ => ⟨S_, .i32⟩
  | .hbm, ⟨62, _⟩ => ⟨S1, .i32⟩
  | .hbm, ⟨63, _⟩ => ⟨S_, .i32⟩
  | .hbm, ⟨64, _⟩ => ⟨S1, .i32⟩
  | .hbm, ⟨65, _⟩ => ⟨S2, .i32⟩
  | .hbm, ⟨66, _⟩ => ⟨S1x128, .f32⟩
  | .hbm, ⟨67, _⟩ => ⟨S1x768, .f32⟩
  | .hbm, ⟨68, _⟩ => ⟨S1x768, .f32⟩
  | .hbm, ⟨69, _⟩ => ⟨S1x768, .f32⟩
  | .hbm, ⟨70, _⟩ => ⟨S2x384x128, .f32⟩
  | .hbm, ⟨71, _⟩ => ⟨S2x384x768, .f32⟩
  | .hbm, ⟨72, _⟩ => ⟨S2x384x768, .f32⟩
  | .hbm, ⟨73, _⟩ => ⟨S2x384x12x369, .f32⟩
  | .hbm, ⟨74, _⟩ => ⟨S2x369x12x369, .f32⟩
  | .hbm, ⟨75, _⟩ => ⟨S2x369x2, .f32⟩
  | .local _ .vmem, ⟨0, _⟩ => ⟨S1x64x768, .f32⟩
  | .local _ .vmem, ⟨1, _⟩ => ⟨S1x64x768, .f32⟩
  | .local _ .vmem, ⟨2, _⟩ => ⟨S384x384, .f32⟩
  | .local _ .vmem, ⟨3, _⟩ => ⟨S1x1x768, .f32⟩
  | .local _ .vmem, ⟨4, _⟩ => ⟨S1x1x768, .f32⟩
  | .local _ .vmem, ⟨5, _⟩ => ⟨S768x1536, .f32⟩
  | .local _ .vmem, ⟨6, _⟩ => ⟨S1x768, .f32⟩
  | .local _ .vmem, ⟨7, _⟩ => ⟨S3072x768, .f32⟩
  | .local _ .vmem, ⟨8, _⟩ => ⟨S1x3072, .f32⟩
  | .local _ .vmem, ⟨9, _⟩ => ⟨S1x384x1x3072, .f32⟩
  | .local _ .vmem, ⟨10, _⟩ => ⟨S1x384x1x3072, .f32⟩
  | .local _ .vmem, ⟨11, _⟩ => ⟨S1x384x1x3072, .f32⟩
  | .local _ .vmem, ⟨12, _⟩ => ⟨S1x384x1x3072, .f32⟩
  | .local _ .vmem, ⟨13, _⟩ => ⟨S768x3072, .f32⟩
  | .local _ .vmem, ⟨14, _⟩ => ⟨S1x384x1x768, .f32⟩
  | .local _ .vmem, ⟨15, _⟩ => ⟨S1x384x1x768, .f32⟩
  | .local _ .vmem, ⟨16, _⟩ => ⟨S1x384x768, .f32⟩
  | .local _ .vmem, ⟨17, _⟩ => ⟨S1x384x768, .f32⟩
  | .local _ .vmem, ⟨18, _⟩ => ⟨S1x1x384, .f32⟩
  | .local _ .vmem, ⟨19, _⟩ => ⟨S1x1x384, .f32⟩
  | .local _ .vmem, ⟨20, _⟩ => ⟨S768x768, .f32⟩
  | .local _ .vmem, ⟨21, _⟩ => ⟨S768x768, .f32⟩
  | .local _ .vmem, ⟨22, _⟩ => ⟨S768x768, .f32⟩
  | .local _ .vmem, ⟨23, _⟩ => ⟨S768x768, .f32⟩
  | .local _ .vmem, ⟨24, _⟩ => ⟨S1x768, .f32⟩
  | .local _ .vmem, ⟨25, _⟩ => ⟨S1x768, .f32⟩
  | .local _ .vmem, ⟨26, _⟩ => ⟨S1x768, .f32⟩
  | .local _ .vmem, ⟨27, _⟩ => ⟨S1x768, .f32⟩
  | .local _ .vmem, ⟨28, _⟩ => ⟨S1x768, .f32⟩
  | .local _ .vmem, ⟨29, _⟩ => ⟨S1x768, .f32⟩
  | .local _ .vmem, ⟨30, _⟩ => ⟨S1x384x768, .f32⟩
  | .local _ .vmem, ⟨31, _⟩ => ⟨S1x384x768, .f32⟩
  | .local _ .vmem, ⟨32, _⟩ => ⟨S384x768, .f32⟩
  | .local _ .vmem, ⟨33, _⟩ => ⟨S384x768, .f32⟩
  | .local _ .vmem, ⟨34, _⟩ => ⟨S384x768, .f32⟩
  | .local _ .vmem, ⟨35, _⟩ => ⟨S384x768, .f32⟩
  | .local _ .vmem, ⟨36, _⟩ => ⟨S1x384x768, .f32⟩
  | .local _ .vmem, ⟨37, _⟩ => ⟨S1x384x768, .f32⟩
  | .local _ .vmem, ⟨38, _⟩ => ⟨S128x768, .f32⟩
  | .local _ .vmem, ⟨39, _⟩ => ⟨S1x128, .f32⟩
  | .local _ .vmem, ⟨40, _⟩ => ⟨S768x768, .f32⟩
  | .local _ .vmem, ⟨41, _⟩ => ⟨S1x768, .f32⟩
  | .local _ .vmem, ⟨42, _⟩ => ⟨S768x768, .f32⟩
  | .local _ .vmem, ⟨43, _⟩ => ⟨S1x768, .f32⟩
  | .local _ .vmem, ⟨44, _⟩ => ⟨S768x1536, .f32⟩
  | .local _ .vmem, ⟨45, _⟩ => ⟨S1x768, .f32⟩
  | .local _ .vmem, ⟨46, _⟩ => ⟨S1x384x128, .f32⟩
  | .local _ .vmem, ⟨47, _⟩ => ⟨S1x384x128, .f32⟩
  | .local _ .vmem, ⟨48, _⟩ => ⟨S1x384x768, .f32⟩
  | .local _ .vmem, ⟨49, _⟩ => ⟨S1x384x768, .f32⟩
  | .local _ .vmem, ⟨50, _⟩ => ⟨S1x384x768, .f32⟩
  | .local _ .vmem, ⟨51, _⟩ => ⟨S1x384x768, .f32⟩
  | .local _ .vmem, ⟨52, _⟩ => ⟨S1x384x768, .f32⟩
  | .local _ .vmem, ⟨53, _⟩ => ⟨S1x384x768, .f32⟩
  | .local _ .vmem, ⟨54, _⟩ => ⟨S1x8x768, .f32⟩
  | .local _ .vmem, ⟨55, _⟩ => ⟨S1x8x768, .f32⟩
  | .local _ .vmem, ⟨56, _⟩ => ⟨S12x768, .f32⟩
  | .local _ .vmem, ⟨57, _⟩ => ⟨S1x8x12x369, .f32⟩
  | .local _ .vmem, ⟨58, _⟩ => ⟨S1x8x12x369, .f32⟩
  | _, _ => ⟨S2x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_c : Ref sig .tc := ⟨.hbm, 37, rfl⟩
abbrev main_call0_v0 : Ref sig .tc := ⟨.hbm, 38, rfl⟩
abbrev main_v8 : Ref sig .tc := ⟨.hbm, 39, rfl⟩
abbrev main_cst_0 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_2 : Ref sig .tc := ⟨.hbm, 54, rfl⟩
abbrev main_v21 : Ref sig .tc := ⟨.hbm, 55, rfl⟩
abbrev main_c_3 : Ref sig .tc := ⟨.hbm, 56, rfl⟩
abbrev main_v22 : Ref sig .tc := ⟨.hbm, 57, rfl⟩
abbrev main_v23 : Ref sig .tc := ⟨.hbm, 58, rfl⟩
abbrev main_cst_4 : Ref sig .tc := ⟨.hbm, 59, rfl⟩
abbrev main_v24 : Ref sig .tc := ⟨.hbm, 60, rfl⟩
abbrev main_c_5 : Ref sig .tc := ⟨.hbm, 61, rfl⟩
abbrev main_v25 : Ref sig .tc := ⟨.hbm, 62, rfl⟩
abbrev main_c_6 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32_0 : Ref sig .tc := ⟨.hbm, 70, rfl⟩
abbrev main_v32_1 : Ref sig .tc := ⟨.hbm, 71, rfl⟩
abbrev main_v32_2 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg12_0 : Ref sig .tc := ⟨.vmem, 30, rfl⟩
abbrev cc2_stg12_1 : Ref sig .tc := ⟨.vmem, 31, rfl⟩
abbrev cc2_scratch0 : Ref sig .tc := ⟨.vmem, 32, rfl⟩
abbrev cc2_scratch1 : Ref sig .tc := ⟨.vmem, 33, rfl⟩
abbrev cc2_scratch2 : Ref sig .tc := ⟨.vmem, 34, rfl⟩
abbrev cc2_scratch3 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg9_1 : Ref sig .tc := ⟨.vmem, 47, rfl⟩
abbrev cc3_stg10_0 : Ref sig .tc := ⟨.vmem, 48, rfl⟩
abbrev cc3_stg10_1 : Ref sig .tc := ⟨.vmem, 49, rfl⟩
abbrev cc3_stg11_0 : Ref sig .tc := ⟨.vmem, 50, rfl⟩
abbrev cc3_stg11_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg3_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem12_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem8_0 : DmaSem sig := 41
abbrev cc3_sem9_0 : DmaSem sig := 42
abbrev cc3_sem9_1 : DmaSem sig := 43
abbrev cc3_sem10_0 : DmaSem sig := 44
abbrev cc3_sem10_1 : DmaSem sig := 45
abbrev cc3_sem11_0 : DmaSem sig := 46
abbrev cc3_sem11_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem3_0 : DmaSem sig := 53
abbrev cc4_sem3_1 : DmaSem sig := 54

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x384x1x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

@[reducible] def k1_t1_loop : Scf.Loop 32 :=
  let c0_i32 : BitVec 32 := 0#32
  let c384_i32 : BitVec 32 := 384#32
  let v1 : BitVec 32 := Scalar.addi c0_i32 c384_i32
  let c1_i32 : BitVec 32 := 1#32
  ⟨c0_i32, v1, c1_i32⟩
def k1_off1 (k1_t1 : Fin k1_t1_loop.trips) : Fin 4 → Nat :=
  let c0 : Index := 0#32
  let c0_i32 : BitVec 32 := 0#32
  let c1_i32 : BitVec 32 := 1#32
  let arg4 : BitVec 32 := Scf.iv c0_i32 c1_i32 k1_t1
  let v3 : Index := Scalar.indexCast arg4
  let c0_1 : Index := 0#32
  let c0_2 : Index := 0#32
  ![0, v3.toNat, 0, 0]
def k1_off2 (k1_t1 : Fin k1_t1_loop.trips) : Fin 4 → Nat :=
  let c0_6 : Index := 0#32
  let c0_i32 : BitVec 32 := 0#32
  let c1_i32 : BitVec 32 := 1#32
  let arg4 : BitVec 32 := Scf.iv c0_i32 c1_i32 k1_t1
  let v23 : Index := Scalar.indexCast arg4
  let c0_7 : Index := 0#32
  let c0_8 : Index := 0#32
  ![0, v23.toNat, 0, 0]
def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x384x1x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x3072 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x384x1x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x384x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S768x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S768x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S768x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x768 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x768 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x768 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x768 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x768 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S1x384x768 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x384x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x768 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S768x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x768 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S768x768 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x768 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S768x1536 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x768 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1x384x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S1x384x768 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S1x384x768 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨2, ![2, 48], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x384x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x8x768 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S12x768 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x8x12x369 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]
-- ==== KernelIdeal.lean ====
variable {F : FTy → Type} [FloatOps F] [Named F]
def κ : String → Option EReal := fun
  | "mask" => some ⊥
  | _ => none
-- ==== ReferenceIdeal.lean ====
abbrev S2x64x768 : Shape := ⟨3, ![2, 64, 768]⟩
abbrev S2x768 : Shape := ⟨2, ![2, 768]⟩
abbrev S2x369 : Shape := ⟨2, ![2, 369]⟩
abbrev S768x1536 : Shape := ⟨2, ![768, 1536]⟩
abbrev S768 : Shape := ⟨1, ![768]⟩
abbrev S3072x768 : Shape := ⟨2, ![3072, 768]⟩
abbrev S3072 : Shape := ⟨1, ![3072]⟩
abbrev S768x768 : Shape := ⟨2, ![768, 768]⟩
abbrev S2 : Shape := ⟨1, ![2]⟩
abbrev S12x768 : Shape := ⟨2, ![12, 768]⟩
abbrev S2x63x768 : Shape := ⟨3, ![2, 63, 768]⟩
abbrev S_ : Shape := ⟨0, ![]⟩
abbrev S2x1x768 : Shape := ⟨3, ![2, 1, 768]⟩
abbrev S2x62x768 : Shape := ⟨3, ![2, 62, 768]⟩
abbrev S2x2x768 : Shape := ⟨3, ![2, 2, 768]⟩
abbrev S2x61x768 : Shape := ⟨3, ![2, 61, 768]⟩
abbrev S2x3x768 : Shape := ⟨3, ![2, 3, 768]⟩
abbrev S2x60x768 : Shape := ⟨3, ![2, 60, 768]⟩
abbrev S2x4x768 : Shape := ⟨3, ![2, 4, 768]⟩
abbrev S2x59x768 : Shape := ⟨3, ![2, 59, 768]⟩
abbrev S2x5x768 : Shape := ⟨3, ![2, 5, 768]⟩
abbrev S2x64x1x768 : Shape := ⟨4, ![2, 64, 1, 768]⟩
abbrev S2x64x6x768 : Shape := ⟨4, ![2, 64, 6, 768]⟩
abbrev S2x59x6x768 : Shape := ⟨4, ![2, 59, 6, 768]⟩
abbrev S2x354x768 : Shape := ⟨3, ![2, 354, 768]⟩
abbrev S2x1x5x768 : Shape := ⟨4, ![2, 1, 5, 768]⟩
abbrev S2x1x4x768 : Shape := ⟨4, ![2, 1, 4, 768]⟩
abbrev S2x1x3x768 : Shape := ⟨4, ![2, 1, 3, 768]⟩
abbrev S2x1x2x768 : Shape := ⟨4, ![2, 1, 2, 768]⟩
abbrev S2x1x1x768 : Shape := ⟨4, ![2, 1, 1, 768]⟩
abbrev S2x369x768 : Shape := ⟨3, ![2, 369, 768]⟩
abbrev S2x369x1536 : Shape := ⟨3, ![2, 369, 1536]⟩
abbrev S1536x768 : Shape := ⟨2, ![1536, 768]⟩
abbrev S1x1x768 : Shape := ⟨3, ![1, 1, 768]⟩
abbrev S369x2x768 : Shape := ⟨3, ![369, 2, 768]⟩
abbrev S1x2x768 : Shape := ⟨3, ![1, 2, 768]⟩
abbrev S768x3072 : Shape := ⟨2, ![768, 3072]⟩
abbrev S2x3072 : Shape := ⟨2, ![2, 3072]⟩
abbrev S1x3072 : Shape := ⟨2, ![1, 3072]⟩
abbrev S2x369x12x64 : Shape := ⟨4, ![2, 369, 12, 64]⟩
abbrev S2x1x1x369 : Shape := ⟨4, ![2, 1, 1, 369]⟩
abbrev S2x12x369x369 : Shape := ⟨4, ![2, 12, 369, 369]⟩
abbrev S2x12x369 : Shape := ⟨3, ![2, 12, 369]⟩
abbrev S2x12x369x1 : Shape := ⟨4, ![2, 12, 369, 1]⟩
abbrev S2x12x64x369 : Shape := ⟨4, ![2, 12, 64, 369]⟩
abbrev S2x369x1 : Shape := ⟨3, ![2, 369, 1]⟩
abbrev S768x2 : Shape := ⟨2, ![768, 2]⟩
abbrev S2x369x2 : Shape := ⟨3, ![2, 369, 2]⟩
abbrev S1x1x2 : Shape := ⟨3, ![1, 1, 2]⟩
abbrev S2x1x369x768 : Shape := ⟨4, ![2, 1, 369, 768]⟩
abbrev S2x369x1x768 : Shape := ⟨4, ![2, 369, 1, 768]⟩
abbrev S2x369x369x768 : Shape := ⟨4, ![2, 369, 369, 768]⟩
abbrev S1x1x1x768 : Shape := ⟨4, ![1, 1, 1, 768]⟩
abbrev S12x2x369x369 : Shape := ⟨4, ![12, 2, 369, 369]⟩
abbrev S2x369x12x369 : Shape := ⟨4, ![2, 369, 12, 369]⟩

abbrev nBuf : Space → Nat
  | .hbm => 272
  | .vmem => 0
  | .smem => 0
  | _ => 0

abbrev hbmTy0_0 (i : Nat) : BufTy := match i % 128 with
  | 0 => ⟨S2x64x768, .f32⟩
  | 1 => ⟨S2x768, .f32⟩
  | 2 => ⟨S2x369, .f32⟩
  | 3 => ⟨S768x1536, .f32⟩
  | 4 => ⟨S768, .f32⟩
  | 5 => ⟨S3072x768, .f32⟩
  | 6 => ⟨S3072x768, .f32⟩
  | 7 => ⟨S3072, .f32⟩
  | 8 => ⟨S3072, .f32⟩
  | 9 => ⟨S768x768, .f32⟩
  | 10 => ⟨S768, .f32⟩
  | 11 => ⟨S768x768, .f32⟩
  | 12 => ⟨S768, .f32⟩
  | 13 => ⟨S768x768, .f32⟩
  | 14 => ⟨S768, .f32⟩
  | 15 => ⟨S768x768, .f32⟩
  | 16 => ⟨S768, .f32⟩
  | 17 => ⟨S768, .f32⟩
  | 18 => ⟨S768, .f32⟩
  | 19 => ⟨S2x768, .f32⟩
  | 20 => ⟨S2, .f32⟩
  | 21 => ⟨S12x768, .f32⟩
  | 22 => ⟨S768x768, .f32⟩
  | 23 => ⟨S768, .f32⟩
  | 24 => ⟨S768x768, .f32⟩
  | 25 => ⟨S768, .f32⟩
  | 26 => ⟨S768x1536, .f32⟩
  | 27 => ⟨S768, .f32⟩
  | 28 => ⟨S2x63x768, .f32⟩
  | 29 => ⟨S_, .f32⟩
  | 30 => ⟨S2x1x768, .f32⟩
  | 31 => ⟨S2x64x768, .f32⟩
  | 32 => ⟨S2x64x768, .f32⟩
  | 33 => ⟨S2x62x768, .f32⟩
  | 34 => ⟨S_, .f32⟩
  | 35 => ⟨S2x2x768, .f32⟩
  | 36 => ⟨S2x64x768, .f32⟩
  | 37 => ⟨S2x64x768, .f32⟩
  | 38 => ⟨S2x61x768, .f32⟩
  | 39 => ⟨S_, .f32⟩
  | 40 => ⟨S2x3x768, .f32⟩
  | 41 => ⟨S2x64x768, .f32⟩
  | 42 => ⟨S2x64x768, .f32⟩
  | 43 => ⟨S2x60x768, .f32⟩
  | 44 => ⟨S_, .f32⟩
  | 45 => ⟨S2x4x768, .f32⟩
  | 46 => ⟨S2x64x768, .f32⟩
  | 47 => ⟨S2x64x768, .f32⟩
  | 48 => ⟨S2x59x768, .f32⟩
  | 49 => ⟨S_, .f32⟩
  | 50 => ⟨S2x5x768, .f32⟩
  | 51 => ⟨S2x64x768, .f32⟩
  | 52 => ⟨S2x64x768, .f32⟩
  | 53 => ⟨S2x64x1x768, .f32⟩
  | 54 => ⟨S2x64x1x768, .f32⟩
  | 55 => ⟨S2x64x1x768, .f32⟩
  | 56 => ⟨S2x64x1x768, .f32⟩
  | 57 => ⟨S2x64x1x768, .f32⟩
  | 58 => ⟨S2x64x1x768, .f32⟩
  | 59 => ⟨S2x64x6x768, .f32⟩
  | 60 => ⟨S2x59x6x768, .f32⟩
  | 61 => ⟨S2x354x768, .f32⟩
  | 62 => ⟨S2x1x5x768, .f32⟩
  | 63 => ⟨S2x5x768, .f32⟩
  | 64 => ⟨S2x1x4x768, .f32⟩
  | 65 => ⟨S2x4x768, .f32⟩
  | 66 => ⟨S2x1x3x768, .f32⟩
  | 67 => ⟨S2x3x768, .f32⟩
  | 68 => ⟨S2x1x2x768, .f32⟩
  | 69 => ⟨S2x2x768, .f32⟩
  | 70 => ⟨S2x1x1x768, .f32⟩
  | 71 => ⟨S2x1x768, .f32⟩
  | 72 => ⟨S2x369x768, .f32⟩
  | 73 => ⟨S2x1x768, .f32⟩
  | 74 => ⟨S2x369x768, .f32⟩
  | 75 => ⟨S2x369x1536, .f32⟩
  | 76 => ⟨S1536x768, .f32⟩
  | 77 => ⟨S2x369x768, .f32⟩
  | 78 => ⟨S1x1x768, .f32⟩
  | 79 => ⟨S2x369x768, .f32⟩
  | 80 => ⟨S2x369x768, .f32⟩
  | 81 => ⟨S2x369x768, .f32⟩
  | 82 => ⟨S_, .f32⟩
  | 83 => ⟨S2x768, .f32⟩
  | 84 => ⟨S369x2x768, .f32⟩
  | 85 => ⟨S_, .f32⟩
  | 86 => ⟨S369x2x768, .f32⟩
  | 87 => ⟨S_, .i32⟩
  | 88 => ⟨S369x2x768, .f32⟩
  | 89 => ⟨S3072x768, .f32⟩
  | 90 => ⟨S3072, .f32⟩
  | 91 => ⟨S3072x768, .f32⟩
  | 92 => ⟨S3072, .f32⟩
  | 93 => ⟨S_, .i32⟩
  | 94 => ⟨S2x768, .f32⟩
  | 95 => ⟨S2x768, .f32⟩
  | 96 => ⟨S369x2x768, .f32⟩
  | 97 => ⟨S_, .i32⟩
  | 98 => ⟨S_, .i1⟩
  | 99 => ⟨S_, .i32⟩
  | 100 => ⟨S_, .i32⟩
  | 101 => ⟨S1x2x768, .f32⟩
  | 102 => ⟨S2x768, .f32⟩
  | 103 => ⟨S768x3072, .f32⟩
  | 104 => ⟨S2x3072, .f32⟩
  | 105 => ⟨S1x3072, .f32⟩
  | 106 => ⟨S2x3072, .f32⟩
  | 107 => ⟨S2x3072, .f32⟩
  | 108 => ⟨S768x3072, .f32⟩
  | 109 => ⟨S2x3072, .f32⟩
  | 110 => ⟨S2x3072, .f32⟩
  | 111 => ⟨S1x3072, .f32⟩
  | 112 => ⟨S2x3072, .f32⟩
  | 113 => ⟨S2x3072, .f32⟩
  | 114 => ⟨S2x768, .f32⟩
  | 115 => ⟨S2x768, .f32⟩
  | 116 => ⟨S2x768, .f32⟩
  | 117 => ⟨S2x768, .f32⟩
  | 118 => ⟨S2x768, .f32⟩
  | 119 => ⟨S2x768, .f32⟩
  | 120 => ⟨S_, .f32⟩
  | 121 => ⟨S2x768, .f32⟩
  | 122 => ⟨S2x768, .f32⟩
  | 123 => ⟨S_, .f32⟩
  | 124 => ⟨S2x768, .f32⟩
  | 125 => ⟨S2x768, .f32⟩
  | 126 => ⟨S2x768, .f32⟩
  | 127 => ⟨S2x768, .f32⟩
  | _ => ⟨S2x64x768, .f32⟩

abbrev hbmTy0_1 (i : Nat) : BufTy := match i % 128 with
  | 0 => ⟨S2x768, .f32⟩
  | 1 => ⟨S_, .f32⟩
  | 2 => ⟨S2x768, .f32⟩
  | 3 => ⟨S2x768, .f32⟩
  | 4 => ⟨S_, .f32⟩
  | 5 => ⟨S2x768, .f32⟩
  | 6 => ⟨S2x768, .f32⟩
  | 7 => ⟨S2x768, .f32⟩
  | 8 => ⟨S2x768, .f32⟩
  | 9 => ⟨S2x768, .f32⟩
  | 10 => ⟨S2x768, .f32⟩
  | 11 => ⟨S2x768, .f32⟩
  | 12 => ⟨S_, .f32⟩
  | 13 => ⟨S2x768, .f32⟩
  | 14 => ⟨S2x768, .f32⟩
  | 15 => ⟨S_, .f32⟩
  | 16 => ⟨S2x768, .f32⟩
  | 17 => ⟨S2x768, .f32⟩
  | 18 => ⟨S2x768, .f32⟩
  | 19 => ⟨S2x768, .f32⟩
  | 20 => ⟨S1x2x768, .f32⟩
  | 21 => ⟨S_, .i32⟩
  | 22 => ⟨S_, .i32⟩
  | 23 => ⟨S369x2x768, .f32⟩
  | 24 => ⟨S_, .i32⟩
  | 25 => ⟨S_, .i32⟩
  | 26 => ⟨S2x369x768, .f32⟩
  | 27 => ⟨S768x768, .f32⟩
  | 28 => ⟨S2x369x768, .f32⟩
  | 29 => ⟨S1x1x768, .f32⟩
  | 30 => ⟨S2x369x768, .f32⟩
  | 31 => ⟨S2x369x768, .f32⟩
  | 32 => ⟨S2x369x12x64, .f32⟩
  | 33 => ⟨S768x768, .f32⟩
  | 34 => ⟨S2x369x768, .f32⟩
  | 35 => ⟨S1x1x768, .f32⟩
  | 36 => ⟨S2x369x768, .f32⟩
  | 37 => ⟨S2x369x768, .f32⟩
  | 38 => ⟨S2x369x12x64, .f32⟩
  | 39 => ⟨S768x768, .f32⟩
  | 40 => ⟨S2x369x768, .f32⟩
  | 41 => ⟨S1x1x768, .f32⟩
  | 42 => ⟨S2x369x768, .f32⟩
  | 43 => ⟨S2x369x768, .f32⟩
  | 44 => ⟨S2x369x12x64, .f32⟩
  | 45 => ⟨S_, .f32⟩
  | 46 => ⟨S2x369, .f32⟩
  | 47 => ⟨S2x369, .f32⟩
  | 48 => ⟨S2x1x1x369, .f32⟩
  | 49 => ⟨S_, .f32⟩
  | 50 => ⟨S2x1x1x369, .f32⟩
  | 51 => ⟨S2x1x1x369, .f32⟩
  | 52 => ⟨S2x12x369x369, .f32⟩
  | 53 => ⟨S_, .f32⟩
  | 54 => ⟨S2x12x369x369, .f32⟩
  | 55 => ⟨S2x12x369x369, .f32⟩
  | 56 => ⟨S2x12x369x369, .f32⟩
  | 57 => ⟨S2x12x369x369, .f32⟩
  | 58 => ⟨S_, .f32⟩
  | 59 => ⟨S2x12x369, .f32⟩
  | 60 => ⟨S_, .f32⟩
  | 61 => ⟨S2x12x369, .f32⟩
  | 62 => ⟨S2x12x369, .f32⟩
  | 63 => ⟨S2x12x369x1, .f32⟩
  | 64 => ⟨S2x12x369x369, .f32⟩
  | 65 => ⟨S2x12x369x369, .f32⟩
  | 66 => ⟨S2x12x369x369, .f32⟩
  | 67 => ⟨S_, .f32⟩
  | 68 => ⟨S2x12x369, .f32⟩
  | 69 => ⟨S2x12x369x1, .f32⟩
  | 70 => ⟨S2x12x369x369, .f32⟩
  | 71 => ⟨S2x12x369x369, .f32⟩
  | 72 => ⟨S2x12x64x369, .f32⟩
  | 73 => ⟨S2x369x12x64, .f32⟩
  | 74 => ⟨S2x369x768, .f32⟩
  | 75 => ⟨S768x768, .f32⟩
  | 76 => ⟨S2x369x768, .f32⟩
  | 77 => ⟨S1x1x768, .f32⟩
  | 78 => ⟨S2x369x768, .f32⟩
  | 79 => ⟨S2x369x768, .f32⟩
  | 80 => ⟨S2x369x768, .f32⟩
  | 81 => ⟨S_, .f32⟩
  | 82 => ⟨S2x369, .f32⟩
  | 83 => ⟨S2x369x1, .f32⟩
  | 84 => ⟨S_, .f32⟩
  | 85 => ⟨S2x369x1, .f32⟩
  | 86 => ⟨S2x369x1, .f32⟩
  | 87 => ⟨S2x369x768, .f32⟩
  | 88 => ⟨S2x369x768, .f32⟩
  | 89 => ⟨S2x369x768, .f32⟩
  | 90 => ⟨S_, .f32⟩
  | 91 => ⟨S2x369, .f32⟩
  | 92 => ⟨S2x369x1, .f32⟩
  | 93 => ⟨S_, .f32⟩
  | 94 => ⟨S2x369x1, .f32⟩
  | 95 => ⟨S2x369x1, .f32⟩
  | 96 => ⟨S2x369x768, .f32⟩
  | 97 => ⟨S2x369x768, .f32⟩
  | 98 => ⟨S_, .f32⟩
  | 99 => ⟨S2x369x1, .f32⟩
  | 100 => ⟨S2x369x1, .f32⟩
  | 101 => ⟨S2x369x1, .f32⟩
  | 102 => ⟨S2x369x768, .f32⟩
  | 103 => ⟨S2x369x768, .f32⟩
  | 104 => ⟨S1x1x768, .f32⟩
  | 105 => ⟨S2x369x768, .f32⟩
  | 106 => ⟨S2x369x768, .f32⟩
  | 107 => ⟨S1x1x768, .f32⟩
  | 108 => ⟨S2x369x768, .f32⟩
  | 109 => ⟨S2x369x768, .f32⟩
  | 110 => ⟨S768x2, .f32⟩
  | 111 => ⟨S2x369x2, .f32⟩
  | 112 => ⟨S1x1x2, .f32⟩
  | 113 => ⟨S2x369x2, .f32⟩
  | 114 => ⟨S2x369x2, .f32⟩
  | 115 => ⟨S768x768, .f32⟩
  | 116 => ⟨S2x369x768, .f32⟩
  | 117 => ⟨S1x1x768, .f32⟩
  | 118 => ⟨S2x369x768, .f32⟩
  | 119 => ⟨S2x369x768, .f32⟩
  | 120 => ⟨S2x369x768, .f32⟩
  | 121 => ⟨S768x768, .f32⟩
  | 122 => ⟨S2x369x768, .f32⟩
  | 123 => ⟨S1x1x768, .f32⟩
  | 124 => ⟨S2x369x768, .f32⟩
  | 125 => ⟨S2x369x768, .f32⟩
  | 126 => ⟨S2x369x768, .f32⟩
  | 127 => ⟨S768x768, .f32⟩
  | _ => ⟨S2x64x768, .f32⟩

abbrev hbmTy0_2 (i : Nat) : BufTy := match i % 128 with
  | 0 => ⟨S768x768, .f32⟩
  | 1 => ⟨S2x369x768, .f32⟩
  | 2 => ⟨S768x768, .f32⟩
  | 3 => ⟨S768x768, .f32⟩
  | 4 => ⟨S2x369x768, .f32⟩
  | 5 => ⟨S2x1x369x768, .f32⟩
  | 6 => ⟨S2x369x1x768, .f32⟩
  | 7 => ⟨S2x369x369x768, .f32⟩
  | 8 => ⟨S2x369x369x768, .f32⟩
  | 9 => ⟨S2x369x369x768, .f32⟩
  | 10 => ⟨S1x1x1x768, .f32⟩
  | 11 => ⟨S2x369x369x768, .f32⟩
  | 12 => ⟨S2x369x369x768, .f32⟩
  | 13 => ⟨S2x369x369x768, .f32⟩
  | 14 => ⟨S12x2x369x369, .f32⟩
  | 15 => ⟨S2x369x12x369, .f32⟩
  | _ => ⟨S2x64x768, .f32⟩

abbrev hbmTy (i : Nat) : BufTy := match i / 128 with
  | 0 => hbmTy0_0 i
  | 1 => hbmTy0_1 i
  | 2 => hbmTy0_2 i
  | _ => ⟨S2x64x768, .f32⟩

abbrev bufTy : (tb : Table) → Fin (tcTables nBuf tb) → BufTy
  | .hbm, ⟨i, _⟩ => hbmTy i
  | _, _ => ⟨S2x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_4 : Ref sig .tc := ⟨.hbm, 82, rfl⟩
abbrev main_v49 : Ref sig .tc := ⟨.hbm, 83, rfl⟩
abbrev main_v50 : Ref sig .tc := ⟨.hbm, 84, rfl⟩
abbrev main_cst_5 : Ref sig .tc := ⟨.hbm, 85, rfl⟩
abbrev main_v51 : Ref sig .tc := ⟨.hbm, 86, rfl⟩
abbrev main_c : Ref sig .tc := ⟨.hbm, 87, rfl⟩
abbrev main_v52_0 : Ref sig .tc := ⟨.hbm, 88, rfl⟩
abbrev main_v52_1 : Ref sig .tc := ⟨.hbm, 89, rfl⟩
abbrev main_v52_2 : Ref sig .tc := ⟨.hbm, 90, rfl⟩
abbrev main_v52_3 : Ref sig .tc := ⟨.hbm, 91, rfl⟩
abbrev main_v52_4 : Ref sig .tc := ⟨.hbm, 92, rfl⟩
abbrev main_v52_5 : Ref sig .tc := ⟨.hbm, 93, rfl⟩
abbrev main_v52_6 : Ref sig .tc := ⟨.hbm, 94, rfl⟩
abbrev main_v52_7 : Ref sig .tc := ⟨.hbm, 95, rfl⟩
abbrev main_v52_8 : Ref sig .tc := ⟨.hbm, 96, rfl⟩
abbrev main_while0c_c_25 : Ref sig .tc := ⟨.hbm, 97, rfl⟩
abbrev main_while0c_v160 : Ref sig .tc := ⟨.hbm, 98, rfl⟩
abbrev main_while0b_call0_c : Ref sig .tc := ⟨.hbm, 99, rfl⟩
abbrev main_while0b_call0_c_0 : Ref sig .tc := ⟨.hbm, 100, rfl⟩
abbrev main_while0b_call0_v0 : Ref sig .tc := ⟨.hbm, 101, rfl⟩
abbrev main_while0b_v160 : Ref sig .tc := ⟨.hbm, 102, rfl⟩
abbrev main_while0b_v161 : Ref sig .tc := ⟨.hbm, 103, rfl⟩
abbrev main_while0b_v162 : Ref sig .tc := ⟨.hbm, 104, rfl⟩
abbrev main_while0b_v163 : Ref sig .tc := ⟨.hbm, 105, rfl⟩
abbrev main_while0b_v164 : Ref sig .tc := ⟨.hbm, 106, rfl⟩
abbrev main_while0b_v165 : Ref sig .tc := ⟨.hbm, 107, rfl⟩
abbrev main_while0b_v166 : Ref sig .tc := ⟨.hbm, 108, rfl⟩
abbrev main_while0b_v167 : Ref sig .tc := ⟨.hbm, 109, rfl⟩
abbrev main_while0b_v168 : Ref sig .tc := ⟨.hbm, 110, rfl⟩
abbrev main_while0b_v169 : Ref sig .tc := ⟨.hbm, 111, rfl⟩
abbrev main_while0b_v170 : Ref sig .tc := ⟨.hbm, 112, rfl⟩
abbrev main_while0b_v171 : Ref sig .tc := ⟨.hbm, 113, rfl⟩
abbrev main_while0b_v172 : Ref sig .tc := ⟨.hbm, 114, rfl⟩
abbrev main_while0b_v173 : Ref sig .tc := ⟨.hbm, 115, rfl⟩
abbrev main_while0b_v174 : Ref sig .tc := ⟨.hbm, 116, rfl⟩
abbrev main_while0b_v175 : Ref sig .tc := ⟨.hbm, 117, rfl⟩
abbrev main_while0b_v176 : Ref sig .tc := ⟨.hbm, 118, rfl⟩
abbrev main_while0b_v177 : Ref sig .tc := ⟨.hbm, 119, rfl⟩
abbrev main_while0b_cst_25 : Ref sig .tc := ⟨.hbm, 120, rfl⟩
abbrev main_while0b_v178 : Ref sig .tc := ⟨.hbm, 121, rfl⟩
abbrev main_while0b_v179 : Ref sig .tc := ⟨.hbm, 122, rfl⟩
abbrev main_while0b_cst_26 : Ref sig .tc := ⟨.hbm, 123, rfl⟩
abbrev main_while0b_v180 : Ref sig .tc := ⟨.hbm, 124, rfl⟩
abbrev main_while0b_v181 : Ref sig .tc := ⟨.hbm, 125, rfl⟩
abbrev main_while0b_v182 : Ref sig .tc := ⟨.hbm, 126, rfl⟩
abbrev main_while0b_v183 : Ref sig .tc := ⟨.hbm, 127, rfl⟩
abbrev main_while0b_v184 : Ref sig .tc := ⟨.hbm, 128, rfl⟩
abbrev main_while0b_cst_27 : Ref sig .tc := ⟨.hbm, 129, rfl⟩
abbrev main_while0b_v185 : Ref sig .tc := ⟨.hbm, 130, rfl⟩
abbrev main_while0b_v186 : Ref sig .tc := ⟨.hbm, 131, rfl⟩
abbrev main_while0b_cst_28 : Ref sig .tc := ⟨.hbm, 132, rfl⟩
abbrev main_while0b_v187 : Ref sig .tc := ⟨.hbm, 133, rfl⟩
abbrev main_while0b_v188 : Ref sig .tc := ⟨.hbm, 134, rfl⟩
abbrev main_while0b_v189 : Ref sig .tc := ⟨.hbm, 135, rfl⟩
abbrev main_while0b_v190 : Ref sig .tc := ⟨.hbm, 136, rfl⟩
abbrev main_while0b_v191 : Ref sig .tc := ⟨.hbm, 137, rfl⟩
abbrev main_while0b_v192 : Ref sig .tc := ⟨.hbm, 138, rfl⟩
abbrev main_while0b_v193 : Ref sig .tc := ⟨.hbm, 139, rfl⟩
abbrev main_while0b_cst_29 : Ref sig .tc := ⟨.hbm, 140, rfl⟩
abbrev main_while0b_v194 : Ref sig .tc := ⟨.hbm, 141, rfl⟩
abbrev main_while0b_v195 : Ref sig .tc := ⟨.hbm, 142, rfl⟩
abbrev main_while0b_cst_30 : Ref sig .tc := ⟨.hbm, 143, rfl⟩
abbrev main_while0b_v196 : Ref sig .tc := ⟨.hbm, 144, rfl⟩
abbrev main_while0b_v197 : Ref sig .tc := ⟨.hbm, 145, rfl⟩
abbrev main_while0b_v198 : Ref sig .tc := ⟨.hbm, 146, rfl⟩
abbrev main_while0b_v199 : Ref sig .tc := ⟨.hbm, 147, rfl⟩
abbrev main_while0b_call1_v0 : Ref sig .tc := ⟨.hbm, 148, rfl⟩
abbrev main_while0b_call1_c : Ref sig .tc := ⟨.hbm, 149, rfl⟩
abbrev main_while0b_call1_c_0 : Ref sig .tc := ⟨.hbm, 150, rfl⟩
abbrev main_while0b_v200 : Ref sig .tc := ⟨.hbm, 151, rfl⟩
abbrev main_while0b_c_31 : Ref sig .tc := ⟨.hbm, 152, rfl⟩
abbrev main_while0b_v201 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_v58 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_cst_6 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_cst_7 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_cst_8 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_cst_9 : Ref sig .tc := ⟨.hbm, 186, rfl⟩
abbrev main_v82 : Ref sig .tc := ⟨.hbm, 187, rfl⟩
abbrev main_cst_10 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_cst_11 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_v94 : Ref sig .tc := ⟨.hbm, 201, rfl⟩
abbrev main_v95 : Ref sig .tc := ⟨.hbm, 202, rfl⟩
abbrev main_v96 : Ref sig .tc := ⟨.hbm, 203, rfl⟩
abbrev main_v97 : Ref sig .tc := ⟨.hbm, 204, rfl⟩
abbrev main_v98 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_cst_12 : Ref sig .tc := ⟨.hbm, 209, rfl⟩
abbrev main_v102 : Ref sig .tc := ⟨.hbm, 210, rfl⟩
abbrev main_v103 : Ref sig .tc := ⟨.hbm, 211, rfl⟩
abbrev main_cst_13 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_cst_14 : Ref sig .tc := ⟨.hbm, 218, rfl⟩
abbrev main_v109 : Ref sig .tc := ⟨.hbm, 219, rfl⟩
abbrev main_v110 : Ref sig .tc := ⟨.hbm, 220, rfl⟩
abbrev main_cst_15 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_cst_16 : Ref sig .tc := ⟨.hbm, 226, rfl⟩
abbrev main_v115 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩

abbrev nD : Nat := 1
abbrev τ : Topo := Topo.v7x

variable {F : FTy → Type} [FloatOps F]

abbrev main_while0_count : Scf.Loop 32 := ⟨0#32, 369#32, 1#32⟩
-- ==== Proof.KRun.lean ====
/- The kernel's run with its two results read at the last boundary, beside the arguments. -/
module

public import proofs.«01_k».proof.Proof.Gen.KernelIdeal.Frame

@[expose] public section

set_option maxRecDepth 16384

noncomputable section

namespace Cert.KernelIdeal.KR

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

set_option backward.isDefEq.respectTransparency.types false in
/-- Every run of the kernel ends, with the two results at what the last boundary holds, the arguments as launched and
    every counter at zero. -/
theorem run : θ_run defs (onTc (τ := τ) (main (F := Ideal))) ⟨m, fun _ => 0, ρ⟩ (fun r => (∀ c : Dev nD,
      r.2.mem ((c.tc : Thread nD τ).loc main_v34) = W12 m ρ c (Proc.devRef .tc main_v34)
      ∧ r.2.mem ((c.tc : Thread nD τ).loc main_v35) = W12 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨(fun c =>
      ⟨h c _ (mem_uc main_v34 (by decide)), h c _ (mem_uc main_v35 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c),
       (h c _ (mem_uc main_arg25 (by decide))).trans (W12_main_arg25 m ρ c),
       (h c _ (mem_uc main_arg26 (by decide))).trans (W12_main_arg26 m ρ c),
       (h c _ (mem_uc main_arg27 (by decide))).trans (W12_main_arg27 m ρ c)⟩), funext fun g => hz g (.inr (no_unscoped g.2))⟩)

end Cert.KernelIdeal.KR

end
-- ==== Proof.Spec.lean ====
/- The mathematics of the span tagger, row by row, over the extended reals. -/
module

public import Idealize.ShloMosaic.Lib.Pointwise

@[expose] public section

noncomputable section

namespace Cert.Spec

open Idealize.ShloMosaic

/-! ## The recurrence -/

section Recurrence

variable (gx : Fin 3072 → EReal) (W : Fin 768 → Fin 3072 → EReal) (h c : Fin 768 → EReal)

/-- Entry `j` of the four gates before their nonlinearities. -/
def gate (j : Fin 3072) : EReal := gx j + ∑ k : Fin 768, h k * W k j

/-- The next cell state. -/
def cellC (d : Fin 768) : EReal :=
  Ideal.logistic (gate gx W h ⟨768 + d.val, by omega⟩) * c d
    + Ideal.logistic (gate gx W h ⟨d.val, by omega⟩) * Ideal.tanh (gate gx W h ⟨1536 + d.val, by omega⟩)

/-- The next hidden state. -/
def cellH (d : Fin 768) : EReal := Ideal.logistic (gate gx W h ⟨2304 + d.val, by omega⟩) * Ideal.tanh (cellC gx W h c d)

end Recurrence

/-- The hidden and cell states after `n` rows. -/
def lstm (gx : ℕ → Fin 3072 → EReal) (W : Fin 768 → Fin 3072 → EReal) : ℕ → (Fin 768 → EReal) × (Fin 768 → EReal)
  | 0 => (fun _ => 0, fun _ => 0)
  | n + 1 => (cellH (gx n) W (lstm gx W n).1 (lstm gx W n).2, cellC (gx n) W (lstm gx W n).1 (lstm gx W n).2)

theorem lstm_congr {gx gx' : ℕ → Fin 3072 → EReal} {W : Fin 768 → Fin 3072 → EReal} {N : ℕ} (h : ∀ n < N, gx n = gx' n) :
    ∀ n ≤ N, lstm gx W n = lstm gx' W n
  | 0, _ => rfl
  | n + 1, hn => by simp only [lstm, lstm_congr h n (by omega), h n (by omega)]

/-- Rows by number: row `n` of `f`, zero past the last. -/
def rowN {N : ℕ} (f : Fin N → Fin 3072 → EReal) (n : ℕ) : Fin 3072 → EReal := if h : n < N then f ⟨n, h⟩ else fun _ => 0

theorem rowN_of_lt {N : ℕ} (f : Fin N → Fin 3072 → EReal) {n : ℕ} (h : n < N) : rowN f n = f ⟨n, h⟩ := dif_pos h

/-! ## The sliding maxima of the sequence -/

/-- Position `i` of a column of 64, `neg` past the end. -/
def pos (neg : EReal) (s : Fin 64 → EReal) (i : ℕ) : EReal := if h : i < 64 then s ⟨i, h⟩ else neg

theorem pos_of_lt (neg : EReal) (s : Fin 64 → EReal) {i : ℕ} (h : i < 64) : pos neg s i = s ⟨i, h⟩ := dif_pos h

/-- The maximum over the positions `i … i + w`. -/
def slide (neg : EReal) (s : Fin 64 → EReal) : ℕ → ℕ → EReal
  | 0, i => pos neg s i
  | w + 1, i => max (slide neg s w i) (pos neg s (i + (w + 1)))

/-! ## Attention and normalization -/

/-- A weighted sum of `v` by the softmax of the scores `s`. -/
def soft {N : ℕ} (s v : Fin N → EReal) : EReal :=
  ∑ x : Fin N, Ideal.div (Ideal.exp (s x - Finset.fold max (Ideal.ofBits .f32 4286578688#32) s Finset.univ))
    (∑ z : Fin N, Ideal.exp (s z - Finset.fold max (Ideal.ofBits .f32 4286578688#32) s Finset.univ)) * v x

/-- An affine map of rows. -/
def lin {N M K : ℕ} (X : Fin N → Fin M → EReal) (W : Fin K → Fin M → EReal) (b : Fin K → EReal) (n : Fin N) (k : Fin K) : EReal :=
  (∑ x : Fin M, X n x * W k x) + b k

/-- Column `e` of the head that column `d` lies in. -/
def hcol (d : Fin 768) (e : Fin 64) : Fin 768 := ⟨d.val / 64 * 64 + e.val, by omega⟩

/-- The scores of row `l` in the head of column `d`. -/
def score {N : ℕ} (m : Fin N → EReal) (Q K : Fin N → Fin 768 → EReal) (l : Fin N) (d : Fin 768) (x : Fin N) : EReal :=
  (∑ e : Fin 64, Q l (hcol d e) * K x (hcol d e)) * Ideal.ofBits .f32 1040187392#32 + m x

/-- The heads' outputs side by side. -/
def ctx {N : ℕ} (m : Fin N → EReal) (Q K V : Fin N → Fin 768 → EReal) (l : Fin N) (d : Fin 768) : EReal :=
  soft (score m Q K l d) (fun x => V x d)

/-- The mean of a row. -/
def mean (r : Fin 768 → EReal) : EReal := Ideal.div (∑ x : Fin 768, r x) (Ideal.ofBits .f32 1145044992#32)

/-- The normalized row, scaled and shifted. -/
def norm (r g b : Fin 768 → EReal) (d : Fin 768) : EReal :=
  (r d - mean r) * Ideal.rsqrt (mean (fun x => (r x - mean r) * (r x - mean r)) + Ideal.ofBits .f32 730643660#32) * g d + b d

/-- Attention with its residual sum and normalization. -/
def attn {N : ℕ} (X : Fin N → Fin 768 → EReal) (m : Fin N → EReal) (Wq Wk Wv Wo : Fin 768 → Fin 768 → EReal) (bq bk bv bo g b : Fin 768 → EReal)
    (l : Fin N) (d : Fin 768) : EReal :=
  norm (fun d => lin (ctx m (lin X Wq bq) (lin X Wk bk) (lin X Wv bv)) Wo bo l d + X l d) g b d

end Cert.Spec
-- ==== Proof.Lit.lean ====
/- The span table of the kernel: row `l` of the printed 0/1 matrix has its one at column `colN l`, for the spans `l < 369`. -/
module

public import proofs.«01_k».proof.KernelIdeal
public import Mathlib.Tactic.IntervalCases

@[expose] public section

set_option maxRecDepth 16384

namespace Cert.Lit

open Cert.KernelIdeal

/-- The start of span `l`. -/
def spanSN (l : ℕ) : ℕ :=
  if l < 354 then l / 6 else if l < 359 then 59 else if l < 363 then 60 else if l < 366 then 61 else if l < 368 then 62 else 63

/-- The width of span `l`, less one. -/
def spanVN (l : ℕ) : ℕ :=
  if l < 354 then l % 6 else if l < 359 then l - 354 else if l < 363 then l - 359 else if l < 366 then l - 363
  else if l < 368 then l - 366 else 0

/-- The row of the stacked sliding maxima span `l` takes. -/
def colN (l : ℕ) : ℕ := spanVN l * 64 + spanSN l

/-- Entry `r` of the `n`-th run of 128 words of the table (a run lies in one row: three runs to a row). -/
def entry (n r : ℕ) : BitVec 32 :=
  if n / 3 < 369 ∧ n % 3 * 128 + r = colN (n / 3) then 0x3F800000#32 else 0#32

/-- A run of 128 words, as a list. -/
def run (n : ℕ) : List (BitVec 32) := (List.range 128).map (entry n)

/-- A choice among 128 words by a number below 128 is the list of the words, at that number. -/
theorem choose128 {α : Type} {m : ℕ} (hm : m < 128)
    (a0 a1 a2 a3 a4 a5 a6 a7 a8 a9 a10 a11 a12 a13 a14 a15 a16 a17 a18 a19 a20 a21 a22 a23 a24 a25 a26 a27 a28 a29
      a30 a31 a32 a33 a34 a35 a36 a37 a38 a39 a40 a41 a42 a43 a44 a45 a46 a47 a48 a49 a50 a51 a52 a53 a54 a55
      a56 a57 a58 a59 a60 a61 a62 a63 a64 a65 a66 a67 a68 a69 a70 a71 a72 a73 a74 a75 a76 a77 a78 a79 a80 a81
      a82 a83 a84 a85 a86 a87 a88 a89 a90 a91 a92 a93 a94 a95 a96 a97 a98 a99 a100 a101 a102 a103 a104 a105
      a106 a107 a108 a109 a110 a111 a112 a113 a114 a115 a116 a117 a118 a119 a120 a121 a122 a123 a124 a125 a126
      a127 d : α) :
    (match (generalizing := false) m with
    | 0 => a0
    | 1 => a1
    | 2 => a2
    | 3 => a3
    | 4 => a4
    | 5 => a5
    | 6 => a6
    | 7 => a7
    | 8 => a8
    | 9 => a9
    | 10 => a10
    | 11 => a11
    | 12 => a12
    | 13 => a13
    | 14 => a14
    | 15 => a15
    | 16 => a16
    | 17 => a17
    | 18 => a18
    | 19 => a19
    | 20 => a20
    | 21 => a21
    | 22 => a22
    | 23 => a23
    | 24 => a24
    | 25 => a25
    | 26 => a26
    | 27 => a27
    | 28 => a28
    | 29 => a29
    | 30 => a30
    | 31 => a31
    | 32 => a32
    | 33 => a33
    | 34 => a34
    | 35 => a35
    | 36 => a36
    | 37 => a37
    | 38 => a38
    | 39 => a39
    | 40 => a40
    | 41 => a41
    | 42 => a42
    | 43 => a43
    | 44 => a44
    | 45 => a45
    | 46 => a46
    | 47 => a47
    | 48 => a48
    | 49 => a49
    | 50 => a50
    | 51 => a51
    | 52 => a52
    | 53 => a53
    | 54 => a54
    | 55 => a55
    | 56 => a56
    | 57 => a57
    | 58 => a58
    | 59 => a59
    | 60 => a60
    | 61 => a61
    | 62 => a62
    | 63 => a63
    | 64 => a64
    | 65 => a65
    | 66 => a66
    | 67 => a67
    | 68 => a68
    | 69 => a69
    | 70 => a70
    | 71 => a71
    | 72 => a72
    | 73 => a73
    | 74 => a74
    | 75 => a75
    | 76 => a76
    | 77 => a77
    | 78 => a78
    | 79 => a79
    | 80 => a80
    | 81 => a81
    | 82 => a82
    | 83 => a83
    | 84 => a84
    | 85 => a85
    | 86 => a86
    | 87 => a87
    | 88 => a88
    | 89 => a89
    | 90 => a90
    | 91 => a91
    | 92 => a92
    | 93 => a93
    | 94 => a94
    | 95 => a95
    | 96 => a96
    | 97 => a97
    | 98 => a98
    | 99 => a99
    | 100 => a100
    | 101 => a101
    | 102 => a102
    | 103 => a103
    | 104 => a104
    | 105 => a105
    | 106 => a106
    | 107 => a107
    | 108 => a108
    | 109 => a109
    | 110 => a110
    | 111 => a111
    | 112 => a112
    | 113 => a113
    | 114 => a114
    | 115 => a115
    | 116 => a116
    | 117 => a117
    | 118 => a118
    | 119 => a119
    | 120 => a120
    | 121 => a121
    | 122 => a122
    | 123 => a123
    | 124 => a124
    | 125 => a125
    | 126 => a126
    | 127 => a127
    | _ => d) = [a0, a1, a2, a3, a4, a5, a6, a7, a8, a9, a10, a11, a12, a13, a14, a15, a16, a17, a18, a19, a20, a21, a22, a23,
      a24, a25, a26, a27, a28, a29, a30, a31, a32, a33, a34, a35, a36, a37, a38, a39, a40, a41, a42, a43, a44,
      a45, a46, a47, a48, a49, a50, a51, a52, a53, a54, a55, a56, a57, a58, a59, a60, a61, a62, a63, a64, a65,
      a66, a67, a68, a69, a70, a71, a72, a73, a74, a75, a76, a77, a78, a79, a80, a81, a82, a83, a84, a85, a86,
      a87, a88, a89, a90, a91, a92, a93, a94, a95, a96, a97, a98, a99, a100, a101, a102, a103, a104, a105,
      a106, a107, a108, a109, a110, a111, a112, a113, a114, a115, a116, a117, a118, a119, a120, a121, a122,
      a123, a124, a125, a126, a127].getD m d := by
  interval_cases m <;> rfl

theorem run_getD (n : ℕ) {r : ℕ} (hr : r < 128) (d : BitVec 32) : (run n).getD r d = entry n r := by
  simp [run, List.getD_eq_getElem?_getD, hr]

/-- A choice among the words of the `n`-th run. -/
theorem choose_run {n m : ℕ} (hm : m < 128)
    {a0 a1 a2 a3 a4 a5 a6 a7 a8 a9 a10 a11 a12 a13 a14 a15 a16 a17 a18 a19 a20 a21 a22 a23 a24 a25 a26 a27 a28 a29
      a30 a31 a32 a33 a34 a35 a36 a37 a38 a39 a40 a41 a42 a43 a44 a45 a46 a47 a48 a49 a50 a51 a52 a53 a54 a55
      a56 a57 a58 a59 a60 a61 a62 a63 a64 a65 a66 a67 a68 a69 a70 a71 a72 a73 a74 a75 a76 a77 a78 a79 a80 a81
      a82 a83 a84 a85 a86 a87 a88 a89 a90 a91 a92 a93 a94 a95 a96 a97 a98 a99 a100 a101 a102 a103 a104 a105
      a106 a107 a108 a109 a110 a111 a112 a113 a114 a115 a116 a117 a118 a119 a120 a121 a122 a123 a124 a125 a126
      a127 d : BitVec 32} (h : [a0, a1, a2, a3, a4, a5, a6, a7, a8, a9, a10, a11, a12, a13, a14, a15, a16, a17, a18, a19, a20, a21, a22, a23,
      a24, a25, a26, a27, a28, a29, a30, a31, a32, a33, a34, a35, a36, a37, a38, a39, a40, a41, a42, a43, a44,
      a45, a46, a47, a48, a49, a50, a51, a52, a53, a54, a55, a56, a57, a58, a59, a60, a61, a62, a63, a64, a65,
      a66, a67, a68, a69, a70, a71, a72, a73, a74, a75, a76, a77, a78, a79, a80, a81, a82, a83, a84, a85, a86,
      a87, a88, a89, a90, a91, a92, a93, a94, a95, a96, a97, a98, a99, a100, a101, a102, a103, a104, a105,
      a106, a107, a108, a109, a110, a111, a112, a113, a114, a115, a116, a117, a118, a119, a120, a121, a122,
      a123, a124, a125, a126, a127] = run n) :
    (match (generalizing := false) m with
    | 0 => a0
    | 1 => a1
    | 2 => a2
    | 3 => a3
    | 4 => a4
    | 5 => a5
    | 6 => a6
    | 7 => a7
    | 8 => a8
    | 9 => a9
    | 10 => a10
    | 11 => a11
    | 12 => a12
    | 13 => a13
    | 14 => a14
    | 15 => a15
    | 16 => a16
    | 17 => a17
    | 18 => a18
    | 19 => a19
    | 20 => a20
    | 21 => a21
    | 22 => a22
    | 23 => a23
    | 24 => a24
    | 25 => a25
    | 26 => a26
    | 27 => a27
    | 28 => a28
    | 29 => a29
    | 30 => a30
    | 31 => a31
    | 32 => a32
    | 33 => a33
    | 34 => a34
    | 35 => a35
    | 36 => a36
    | 37 => a37
    | 38 => a38
    | 39 => a39
    | 40 => a40
    | 41 => a41
    | 42 => a42
    | 43 => a43
    | 44 => a44
    | 45 => a45
    | 46 => a46
    | 47 => a47
    | 48 => a48
    | 49 => a49
    | 50 => a50
    | 51 => a51
    | 52 => a52
    | 53 => a53
    | 54 => a54
    | 55 => a55
    | 56 => a56
    | 57 => a57
    | 58 => a58
    | 59 => a59
    | 60 => a60
    | 61 => a61
    | 62 => a62
    | 63 => a63
    | 64 => a64
    | 65 => a65
    | 66 => a66
    | 67 => a67
    | 68 => a68
    | 69 => a69
    | 70 => a70
    | 71 => a71
    | 72 => a72
    | 73 => a73
    | 74 => a74
    | 75 => a75
    | 76 => a76
    | 77 => a77
    | 78 => a78
    | 79 => a79
    | 80 => a80
    | 81 => a81
    | 82 => a82
    | 83 => a83
    | 84 => a84
    | 85 => a85
    | 86 => a86
    | 87 => a87
    | 88 => a88
    | 89 => a89
    | 90 => a90
    | 91 => a91
    | 92 => a92
    | 93 => a93
    | 94 => a94
    | 95 => a95
    | 96 => a96
    | 97 => a97
    | 98 => a98
    | 99 => a99
    | 100 => a100
    | 101 => a101
    | 102 => a102
    | 103 => a103
    | 104 => a104
    | 105 => a105
    | 106 => a106
    | 107 => a107
    | 108 => a108
    | 109 => a109
    | 110 => a110
    | 111 => a111
    | 112 => a112
    | 113 => a113
    | 114 => a114
    | 115 => a115
    | 116 => a116
    | 117 => a117
    | 118 => a118
    | 119 => a119
    | 120 => a120
    | 121 => a121
    | 122 => a122
    | 123 => a123
    | 124 => a124
    | 125 => a125
    | 126 => a126
    | 127 => a127
    | _ => d) = entry n m := by
  rw [choose128 hm, h, run_getD n hm]

/-- Word `r` of each of `k` runs, from the `n`-th on. -/
def column (r : ℕ) : ℕ → ℕ → List (BitVec 32)
  | _, 0 => []
  | n, k + 1 => entry n r :: column r (n + 1) k

theorem column_cons {r n k : ℕ} {x : BitVec 32} {xs : List (BitVec 32)} (h : x = entry n r) (hs : xs = column r (n + 1) k) :
    x :: xs = column r n (k + 1) := by
  rw [h, hs]; rfl

theorem column_getD (r : ℕ) (d : BitVec 32) : ∀ (k n b : ℕ), b < k → (column r n k).getD b d = entry (n + b) r
  | k + 1, n, 0, _ => rfl
  | k + 1, n, b + 1, h => by
    have := column_getD r d k (n + 1) b (by omega)
    rw [show n + (b + 1) = n + 1 + b by omega, ← this]
    rfl

set_option maxHeartbeats 8000000 in
/-- The nine blocks of 128 runs. -/
theorem blocks (i : ℕ) :
    lit0t1_0 i = entry (0 + i / 128 % 128) (i % 128)
    ∧ lit0t1_1 i = entry (128 + i / 128 % 128) (i % 128)
    ∧ lit0t1_2 i = entry (256 + i / 128 % 128) (i % 128)
    ∧ lit0t1_3 i = entry (384 + i / 128 % 128) (i % 128)
    ∧ lit0t1_4 i = entry (512 + i / 128 % 128) (i % 128)
    ∧ lit0t1_5 i = entry (640 + i / 128 % 128) (i % 128)
    ∧ lit0t1_6 i = entry (768 + i / 128 % 128) (i % 128)
    ∧ lit0t1_7 i = entry (896 + i / 128 % 128) (i % 128)
    ∧ lit0t1_8 i = entry (1024 + i / 128 % 128) (i % 128) := by
  have hm : i % 128 < 128 := Nat.mod_lt _ (by decide)
  have hd : i / 128 % 128 < 128 := Nat.mod_lt _ (by decide)
  refine ⟨?_, ?_, ?_, ?_, ?_, ?_, ?_, ?_, ?_⟩ <;>
  · refine (choose128 hd ..).trans (Eq.trans ?_ (column_getD (i % 128) 0#32 128 _ _ hd))
    congr 1
    iterate 128 refine column_cons (choose_run hm (by decide +kernel)) ?_
    rfl

/-- The whole table. -/
theorem lit0t_eq {i : ℕ} (hi : i < 147456) : lit0t i = entry (i / 128) (i % 128) := by
  obtain ⟨h0, h1, h2, h3, h4, h5, h6, h7, h8⟩ := blocks i
  have ha : i / 16384 < 9 := by omega
  have hm : i / 16384 % 128 = i / 16384 := by omega
  unfold lit0t
  simp only [h0, h1, h2, h3, h4, h5, h6, h7, h8]
  generalize hq : i / 16384 = q at ha
  have hq' := hq
  have hh : ∀ a, a = i / 128 → entry a (i % 128) = entry (i / 128) (i % 128) := fun a h => by rw [h]
  interval_cases q <;> exact hh _ (by omega)

/-- Row `l < 369` of the table has its one at `colN l`. -/
theorem perm_word (l k : Fin 384) (hl : l.val < 369) (h : l.val * 384 + k.val < 147456) :
    lit0 ⟨l.val * 384 + k.val, h⟩ = if k.val = colN l.val then 0x3F800000#32 else 0#32 := by
  show lit0t (l.val * 384 + k.val) = _
  rw [lit0t_eq h, entry]
  have h1 : (l.val * 384 + k.val) / 128 / 3 = l.val := by omega
  have h2 : (l.val * 384 + k.val) / 128 % 3 * 128 + (l.val * 384 + k.val) % 128 = k.val := by omega
  rw [h1, h2]
  simp only [hl, true_and]

theorem colN_lt (l : ℕ) (hl : l < 369) : colN l < 384 ∧ spanSN l < 64 ∧ spanVN l < 6 := by
  simp only [colN, spanSN, spanVN]
  split_ifs <;> omega

end Cert.Lit
-- ==== Proof.Model.lean ====
/- The problem's mathematics as one function of the arguments, and the facts that let a row of scores padded with minus infinity be cut short. -/
module

public import proofs.«01_k».proof.Proof.Spec
public import proofs.«01_k».proof.Proof.Lit

@[expose] public section

noncomputable section

namespace Cert.Spec

open Idealize.ShloMosaic

/-- The arguments, entry by entry. -/
structure Args where
  seq : Fin 2 → Fin 64 → Fin 768 → EReal
  pool : Fin 2 → Fin 768 → EReal
  mask : Fin 2 → Fin 369 → EReal
  cW : Fin 768 → Fin 1536 → EReal
  cb : Fin 768 → EReal
  Wih : Fin 3072 → Fin 768 → EReal
  Whh : Fin 3072 → Fin 768 → EReal
  bih : Fin 3072 → EReal
  bhh : Fin 3072 → EReal
  Wq : Fin 768 → Fin 768 → EReal
  bq : Fin 768 → EReal
  Wk : Fin 768 → Fin 768 → EReal
  bk : Fin 768 → EReal
  Wv : Fin 768 → Fin 768 → EReal
  bv : Fin 768 → EReal
  Wo : Fin 768 → Fin 768 → EReal
  bo : Fin 768 → EReal
  lg : Fin 768 → EReal
  lb : Fin 768 → EReal
  clsW : Fin 2 → Fin 768 → EReal
  clsb : Fin 2 → EReal
  rel : Fin 12 → Fin 768 → EReal
  uW : Fin 768 → Fin 768 → EReal
  ub : Fin 768 → EReal
  vW : Fin 768 → Fin 768 → EReal
  vb : Fin 768 → EReal
  sW : Fin 768 → Fin 1536 → EReal
  sb : Fin 768 → EReal

variable (a : Args) (b : Fin 2)

/-- Entry `x` of span `l`: the largest of the sequence's entries in it. -/
def span (l : ℕ) (x : Fin 768) : EReal := slide (Ideal.ofBits .f32 0xF149F2CA#32) (fun i => a.seq b i x) (Cert.Lit.spanVN l) (Cert.Lit.spanSN l)

/-- The combined row of span `l` before its nonlinearity. -/
def combine (l : ℕ) (d : Fin 768) : EReal :=
  (∑ x : Fin 768, span a b l x * a.cW d ⟨x.val, by omega⟩) + (∑ x : Fin 768, a.pool b x * a.cW d ⟨768 + x.val, by omega⟩) + a.cb d

/-- What enters the gates of span `l` from outside the recurrence. -/
def gin (l : ℕ) (j : Fin 3072) : EReal := (∑ x : Fin 768, Ideal.tanh (combine a b l x) * a.Wih j x) + (a.bih j + a.bhh j)

/-- The recurrence's output at span `l`. -/
def hid (l : ℕ) (d : Fin 768) : EReal := (lstm (gin a b) (fun k j => a.Whh j k) (l + 1)).1 d

/-- The mask added to the scores. -/
def bias (x : Fin 369) : EReal := (Ideal.ofBits .f32 0x3F800000#32 - a.mask b x) * Ideal.ofBits .f32 0xC61C4000#32

/-- The attention layer's output. -/
def att (l : Fin 369) (d : Fin 768) : EReal :=
  attn (fun (l : Fin 369) d => hid a b l.val d) (bias a b) a.Wq a.Wk a.Wv a.Wo a.bq a.bk a.bv a.bo a.lg a.lb l d

/-- The class scores. -/
def classify (l : Fin 369) (t : Fin 2) : EReal := (∑ k : Fin 768, att a b l k * a.clsW t k) + a.clsb t

/-- The first half of the pair projection, its bias included. -/
def left (l : Fin 369) (n : Fin 768) : EReal :=
  (∑ k : Fin 768, Ideal.tanh ((∑ x : Fin 768, att a b l x * a.uW k x) + a.ub k) * a.sW n ⟨k.val, by omega⟩) + a.sb n

/-- The second half of the pair projection. -/
def right (l : Fin 369) (n : Fin 768) : EReal :=
  ∑ k : Fin 768, Ideal.tanh ((∑ x : Fin 768, att a b l x * a.vW k x) + a.vb k) * a.sW n ⟨768 + k.val, by omega⟩

/-- The pair scores. -/
def select (i : Fin 369) (r : Fin 12) (j : Fin 369) : EReal :=
  ∑ x : Fin 768, a.rel r x * Ideal.tanh (left a b j x + right a b i x)

/-! ## Real entries -/

/-- Finite. -/
def Re (x : EReal) : Prop := ∃ r : ℝ, x = r

theorem Re.add {x y : EReal} : Re x → Re y → Re (x + y) := by
  rintro ⟨r, rfl⟩ ⟨s, rfl⟩; exact ⟨r + s, (EReal.coe_add r s).symm⟩

theorem Re.sub {x y : EReal} : Re x → Re y → Re (x - y) := by
  rintro ⟨r, rfl⟩ ⟨s, rfl⟩; exact ⟨r - s, (EReal.coe_sub r s).symm⟩

theorem Re.mul {x y : EReal} : Re x → Re y → Re (x * y) := by
  rintro ⟨r, rfl⟩ ⟨s, rfl⟩; exact ⟨r * s, (EReal.coe_mul r s).symm⟩

theorem Re.sum {N : ℕ} {f : Fin N → EReal} (h : ∀ x, Re (f x)) : Re (∑ x, f x) :=
  Finset.sum_induction f Re (fun _ _ => Re.add) ⟨0, rfl⟩ fun x _ => h x

theorem exp_nonneg (x : EReal) : 0 ≤ Ideal.exp x := by
  induction x with
  | bot => exact le_refl _
  | top => exact le_top
  | coe x => exact EReal.coe_nonneg.2 (Real.exp_pos x).le

theorem Re.inv (x : EReal) : Re x⁻¹ := by
  induction x with
  | bot => exact ⟨0, EReal.inv_bot⟩
  | top => exact ⟨0, EReal.inv_top⟩
  | coe x => exact ⟨x⁻¹, (EReal.coe_inv x).symm⟩

theorem Re.logistic (x : EReal) : Re (Ideal.logistic x) := by
  unfold Ideal.logistic Ideal.div
  have h : (0 : EReal) < 1 + Ideal.exp (-x) := lt_of_lt_of_le one_pos (le_add_of_nonneg_right (exp_nonneg _))
  rw [if_neg h.ne', one_mul]
  exact Re.inv _

theorem Re.tanh (x : EReal) : Re (Ideal.tanh x) := by
  induction x with
  | bot => exact ⟨-1, rfl⟩
  | top => exact ⟨1, rfl⟩
  | coe x => exact ⟨_, rfl⟩

theorem Re.hid (l : ℕ) (d : Fin 768) : Re (hid a b l d) := (Re.logistic _).mul (Re.tanh _)

/-- The scores' entries are finite. -/
structure Finite (a : Args) : Prop where
  mask : ∀ b x, Re (a.mask b x)
  Wq : ∀ k x, Re (a.Wq k x)
  Wk : ∀ k x, Re (a.Wk k x)
  bq : ∀ k, Re (a.bq k)
  bk : ∀ k, Re (a.bk k)

theorem bits_one : Ideal.ofBits .f32 0x3F800000#32 = 1 := Ideal.ofBits_one_f32

theorem bits_scale : Ideal.ofBits .f32 1040187392#32 = ((1/8 : ℝ) : EReal) := by
  simp [Ideal.ofBits, Ideal.ieee, -EReal.coe_mul]; norm_num

theorem bits_mask : Ideal.ofBits .f32 0xC61C4000#32 = ((-10000 : ℝ) : EReal) := by
  simp [Ideal.ofBits, Ideal.ieee, -EReal.coe_mul]; norm_num

theorem bits_bot : Ideal.ofBits .f32 4286578688#32 = ⊥ := by
  simp [Ideal.ofBits, Ideal.ieee]

theorem Re.bias (h : Finite a) (x : Fin 369) : Re (bias a b x) := by
  unfold Spec.bias
  rw [bits_one, bits_mask]
  exact (Re.sub ⟨1, rfl⟩ (h.mask b x)).mul ⟨_, rfl⟩

/-! ## Cutting a padded row -/

/-- Row `n` of 369 among 384. -/
abbrev up (n : Fin 369) : Fin 384 := ⟨n.val, by omega⟩

theorem sum_cut (f : Fin 384 → EReal) (h : ∀ x, 369 ≤ x.val → f x = 0) : ∑ x, f x = ∑ x : Fin 369, f (up x) := by
  have e := Fin.sum_univ_add (a := 369) (b := 15) f
  refine e.trans ?_
  rw [show (∑ i : Fin 15, f (Fin.natAdd 369 i)) = 0 from Finset.sum_eq_zero fun i _ => h _ (by show 369 ≤ 369 + i.val; omega), add_zero]
  rfl

theorem max_cut (f : Fin 384 → EReal) (h : ∀ x, 369 ≤ x.val → f x = ⊥) :
    Finset.fold max ⊥ f Finset.univ = Finset.fold max ⊥ (fun x : Fin 369 => f (up x)) Finset.univ := by
  refine le_antisymm ?_ ?_
  · refine Finset.fold_max_le _ |>.2 ⟨bot_le, fun x _ => ?_⟩
    by_cases hx : x.val < 369
    · exact Finset.le_fold_max _ |>.2 (.inr ⟨⟨x.val, hx⟩, Finset.mem_univ _, le_refl _⟩)
    · rw [h x (by omega)]; exact bot_le
  · exact Finset.fold_max_le _ |>.2 ⟨bot_le, fun x _ => Finset.le_fold_max _ |>.2 (.inr ⟨up x, Finset.mem_univ _, le_refl _⟩)⟩

theorem soft_cut (s v : Fin 384 → EReal) (hs : ∀ x, 369 ≤ x.val → s x = ⊥) (hr : ∀ x : Fin 369, Re (s (up x))) :
    soft s v = soft (fun x : Fin 369 => s (up x)) (fun x => v (up x)) := by
  unfold soft
  rw [bits_bot, max_cut s hs]
  obtain ⟨M, hM⟩ : Re (Finset.fold max ⊥ (fun x : Fin 369 => s (up x)) Finset.univ) := by
    have lo : ⊥ < Finset.fold max ⊥ (fun x : Fin 369 => s (up x)) Finset.univ :=
      Finset.lt_fold_max _ |>.2 (.inr ⟨0, Finset.mem_univ _, by obtain ⟨r, hr⟩ := hr 0; show ⊥ < s (up 0); rw [hr]; exact EReal.bot_lt_coe r⟩)
    have hi : Finset.fold max ⊥ (fun x : Fin 369 => s (up x)) Finset.univ < ⊤ :=
      Finset.fold_max_lt _ |>.2 ⟨bot_lt_top, fun x _ => by obtain ⟨r, hr⟩ := hr x; show s (up x) < ⊤; rw [hr]; exact EReal.coe_lt_top r⟩
    exact ⟨_, (EReal.coe_toReal hi.ne lo.ne').symm⟩
  rw [hM]
  have z : ∀ x : Fin 384, 369 ≤ x.val → Ideal.exp (s x - (M : EReal)) = 0 := fun x hx => by
    rw [hs x hx, EReal.bot_sub]; rfl
  rw [sum_cut (fun x => Ideal.exp (s x - (M : EReal))) z]
  have pos : (0 : EReal) < ∑ x : Fin 369, Ideal.exp (s (up x) - (M : EReal)) := by
    refine lt_of_lt_of_le ?_ (Finset.single_le_sum (f := fun x : Fin 369 => Ideal.exp (s (up x) - (M : EReal))) (fun x _ => exp_nonneg _) (Finset.mem_univ 0))
    obtain ⟨r, hr⟩ := hr 0
    show 0 < Ideal.exp (s (up 0) - (M : EReal))
    rw [hr, ← EReal.coe_sub]
    exact EReal.coe_pos.2 (Real.exp_pos _)
  refine sum_cut _ fun x hx => ?_
  rw [z x hx]
  unfold Ideal.div
  rw [if_neg pos.ne', zero_mul, zero_mul]

theorem Re.lin {N M K : ℕ} {X : Fin N → Fin M → EReal} {W : Fin K → Fin M → EReal} {c : Fin K → EReal} (n : Fin N) (k : Fin K)
    (hX : ∀ x, Re (X n x)) (hW : ∀ x, Re (W k x)) (hc : Re (c k)) : Re (lin X W c n k) :=
  (Re.sum fun x => (hX x).mul (hW x)).add hc

/-- The attention of the padded rows at a row that is not padding: the attention of the rows without the padding. -/
theorem attn_cut (h : Finite a) (X : Fin 384 → Fin 768 → EReal) (m : Fin 384 → EReal) (hX : ∀ (x : Fin 369) d, X (up x) d = hid a b x.val d)
    (hm : ∀ x : Fin 369, m (up x) = bias a b x) (hp : ∀ x, 369 ≤ x.val → m x = ⊥) (l : Fin 369) (d : Fin 768) :
    attn X m a.Wq a.Wk a.Wv a.Wo a.bq a.bk a.bv a.bo a.lg a.lb (up l) d = att a b l d := by
  have hl : ∀ (W : Fin 768 → Fin 768 → EReal) (c : Fin 768 → EReal) (x : Fin 369) (k : Fin 768),
      lin X W c (up x) k = lin (fun (l : Fin 369) d => hid a b l.val d) W c x k := fun W c x k => by
    unfold lin
    simp only [hX]
  have hc : ∀ d, ctx m (lin X a.Wq a.bq) (lin X a.Wk a.bk) (lin X a.Wv a.bv) (up l) d
      = ctx (bias a b) (lin (fun (l : Fin 369) d => hid a b l.val d) a.Wq a.bq) (lin (fun (l : Fin 369) d => hid a b l.val d) a.Wk a.bk)
          (lin (fun (l : Fin 369) d => hid a b l.val d) a.Wv a.bv) l d := fun d => by
    have hsc : ∀ x : Fin 369, score m (lin X a.Wq a.bq) (lin X a.Wk a.bk) (up l) d (up x)
        = score (bias a b) (lin (fun (l : Fin 369) d => hid a b l.val d) a.Wq a.bq) (lin (fun (l : Fin 369) d => hid a b l.val d) a.Wk a.bk) l d x := fun x => by
      unfold score
      simp only [hl, hm]
    unfold ctx
    rw [soft_cut]
    · simp only [hsc, hl]
    · intro x hx
      unfold score
      rw [hp x hx, EReal.add_bot]
    · intro x
      rw [hsc]
      unfold score
      rw [bits_scale]
      exact ((Re.sum fun e => (Re.lin _ _ (fun _ => Re.hid a b _ _) (h.Wq _) (h.bq _)).mul (Re.lin _ _ (fun _ => Re.hid a b _ _) (h.Wk _) (h.bk _))).mul ⟨_, rfl⟩).add (Re.bias a b h x)
  have hr : ∀ d, lin (ctx m (lin X a.Wq a.bq) (lin X a.Wk a.bk) (lin X a.Wv a.bv)) a.Wo a.bo (up l) d + X (up l) d
      = lin (ctx (bias a b) (lin (fun (l : Fin 369) d => hid a b l.val d) a.Wq a.bq) (lin (fun (l : Fin 369) d => hid a b l.val d) a.Wk a.bk)
          (lin (fun (l : Fin 369) d => hid a b l.val d) a.Wv a.bv)) a.Wo a.bo l d + hid a b l.val d := fun d => by
    rw [hX]
    unfold lin at hc ⊢
    simp only [hc]
  unfold att attn
  simp only [hr]

end Cert.Spec

end
-- ==== Proof.Host.lean ====
/- What the host operations around the kernel leave, element by element. -/
module

public import proofs.«01_k».proof.Proof.Gen.KernelIdeal.Frame
public import Idealize.ShloMosaic.Lib.Pipeline.ValueKit
public import proofs.«01_k».proof.Proof.Lit
public import Idealize.ShloMosaic.Lib.StableHlo.ReadAt
public import Idealize.ShloMosaic.Lib.Routing.OpsSet

@[expose] public section

set_option maxRecDepth 16384

noncomputable section

namespace Cert.KernelIdeal.H

open Idealize.ShloMosaic Idealize.ShloMosaic.TcCoe Idealize.SL.Sem
open Idealize.ShloMosaic.Pipeline (Dat)
open Cert.KernelIdeal Cert.KernelIdeal.Gen

variable (U : Valuation τ sig (Elt Ideal))

theorem r0_v1 (j : Fin 3072) : StableHlo.after hostOps0 U (Proc.devRef .tc main_v1) (ix2 0 j) = (show EReal from U (Proc.devRef .tc main_arg7) (ix1 j)) + (show EReal from U (Proc.devRef .tc main_arg8) (ix1 j)) := by
  after_reads_at

theorem r0_v2 (n : Fin 2) (j : Fin 768) : StableHlo.after hostOps0 U (Proc.devRef .tc main_v2) (ix3 n 0 j) = U (Proc.devRef .tc main_arg1) (ix2 n j) := by
  after_reads_at

theorem r1_v5 (k : Fin 768) (j : Fin 3072) : StableHlo.after hostOps1 U (Proc.devRef .tc main_v5) (ix2 k j) = U (Proc.devRef .tc main_arg6) (ix2 j k) := by
  after_reads_at

theorem r2_v7 (n : Fin 2) (l : Fin 384) (d : Fin 768) : StableHlo.after hostOps2 U (Proc.devRef .tc main_v7) (ix3 n l d) = U (Proc.devRef .tc main_v6) (ix4 n l 0 d) := by
  after_reads_at

theorem r21_v8 (n : Fin 2) (l : Fin 384) (l' : Fin 369) (h : l.val = l'.val) : StableHlo.after hostOps2_1 U (Proc.devRef .tc main_v8) (ix2 n l) = U (Proc.devRef .tc main_arg2) (ix2 n l') := by
  after_reads_at
  obtain ⟨a, ha⟩ := l
  subst h
  exact dif_pos l'.isLt

theorem r22_v13 (n : Fin 2) (l : Fin 384) : StableHlo.after hostOps2_2 U (Proc.devRef .tc main_v13) (ix3 n 0 l)
    = (Ideal.ofBits .f32 0x3F800000#32 - U (Proc.devRef .tc main_v8) (ix2 n l)) * Ideal.ofBits .f32 0xC61C4000#32 := by
  after_reads_at

/-- The padded classifier: its first rows are the classifier's. -/
theorem set23 (x : FVec Ideal S128x768 .f32) (i : IVec S1 32) (hi : ∀ p, i p = 0#32) (u : FVec Ideal S2x768 .f32) (n : Fin 128) (t : Fin 2) (h : n.val = t.val) (k : Fin 768) :
    Host.scatter scatter_S128x768_S1_S2x768_01_n_0_0 (fun _ b => b) x i u (ix2 n k) = u (ix2 t k) := by
  have lands : ∀ q : S2x768.Idx, scatter_S128x768_S1_S2x768_01_n_0_0.resultIdx? q i = some (ix2 n k) ↔ q = ix2 t k := by
    intro q
    idx_vars q
    refine (Routing.resultIdx?_ix2 _ _ _ _ _).trans ?_
    have s0 : scatter_S128x768_S1_S2x768_01_n_0_0.start (ix2 q0 q1) i 0 = 0 := (congrArg BitVec.toInt (hi _)).trans rfl
    have s1 : scatter_S128x768_S1_S2x768_01_n_0_0.start (ix2 q0 q1) i 1 = 0 := rfl
    have w0 : scatter_S128x768_S1_S2x768_01_n_0_0.window (ix2 q0 q1) 0 = q0.val := rfl
    have w1 : scatter_S128x768_S1_S2x768_01_n_0_0.window (ix2 q0 q1) 1 = q1.val := rfl
    rw [s0, s1, w0, w1]
    constructor
    · intro e
      obtain rfl : q0 = t := Fin.ext (by omega)
      obtain rfl : q1 = k := Fin.ext (by omega)
      rfl
    · intro e
      obtain rfl : q0 = t := congrFun e 0
      obtain rfl : q1 = k := congrFun e 1
      omega
  exact Routing.scatter_set_hit _ x i u _ _ (fun q hq => by rw [(lands q).1 hq]) (ix2 t k) ((lands _).2 rfl)

theorem set28 (x : FVec Ideal S1x128 .f32) (i : IVec S2 32) (hi : ∀ p, i p = 0#32) (u : FVec Ideal S2 .f32) (n : Fin 128) (t : Fin 2) (h : n.val = t.val) :
    Host.scatter scatter_S1x128_S2_S2_0_0_01_0 (fun _ b => b) x i u (ix2 0 n) = u (ix1 t) := by
  have lands : ∀ q : S2.Idx, scatter_S1x128_S2_S2_0_0_01_0.resultIdx? q i = some (ix2 0 n) ↔ q = ix1 t := by
    intro q
    idx_vars q
    refine (Routing.resultIdx?_ix2 _ _ _ _ _).trans ?_
    have s0 : scatter_S1x128_S2_S2_0_0_01_0.start (ix1 q0) i 0 = 0 := (congrArg BitVec.toInt (hi _)).trans rfl
    have s1 : scatter_S1x128_S2_S2_0_0_01_0.start (ix1 q0) i 1 = 0 := (congrArg BitVec.toInt (hi _)).trans rfl
    have w0 : scatter_S1x128_S2_S2_0_0_01_0.window (ix1 q0) 0 = 0 := rfl
    have w1 : scatter_S1x128_S2_S2_0_0_01_0.window (ix1 q0) 1 = q0.val := rfl
    rw [s0, s1, w0, w1]
    constructor
    · intro e
      obtain rfl : q0 = t := Fin.ext (by omega)
      rfl
    · intro e
      obtain rfl : q0 = t := congrFun e 0
      exact ⟨rfl, by omega⟩
  exact Routing.scatter_set_hit _ x i u _ _ (fun q hq => by rw [(lands q).1 hq]) (ix1 t) ((lands _).2 rfl)

theorem zero2 (a b : IVec S1 32) (ha : a = fun _ => 0#32) (hb : b = fun _ => 0#32) (p : S2.Idx) :
    concatenate S2 0 [⟨S1, a⟩, ⟨S1, b⟩] concatenates_S1_S1_S2_d0 p = 0#32 := by
  subst ha hb
  idx_vars p
  pointwise
  exact ite_self _

theorem r3_v23 (n : Fin 128) (t : Fin 2) (h : n.val = t.val) (k : Fin 768) : StableHlo.after hostOps3 U (Proc.devRef .tc main_v23) (ix2 n k) = U (Proc.devRef .tc main_arg19) (ix2 t k) := by
  after_reads_simp
  exact set23 _ _ (fun _ => rfl) _ n t h k

theorem r3_v28 (n : Fin 128) (t : Fin 2) (h : n.val = t.val) : StableHlo.after hostOps3 U (Proc.devRef .tc main_v28) (ix2 0 n) = U (Proc.devRef .tc main_arg20) (ix1 t) := by
  after_reads_simp
  exact set28 _ _ (zero2 _ _ (by funext q; after_reads_simp; rfl) (by funext q; after_reads_simp; rfl)) _ n t h

theorem r5_v34 (n : Fin 2) (i : Fin 369) (r : Fin 12) (j : Fin 369) : StableHlo.after hostOps5 U (Proc.devRef .tc main_v34) (ix4 n i r j) = U (Proc.devRef .tc main_v33) (ix4 n ⟨i.val, by omega⟩ r j) := by
  after_reads_at

theorem r5_v35 (n : Fin 2) (i : Fin 369) (t : Fin 2) : StableHlo.after hostOps5 U (Proc.devRef .tc main_v35) (ix3 n i t) = U (Proc.devRef .tc main_v32_0) (ix3 n ⟨i.val, by omega⟩ ⟨t.val, by omega⟩) := by
  after_reads_at

theorem r0_cst (l k : Fin 384) : StableHlo.after hostOps0 U (Proc.devRef .tc main_cst) (ix2 l k) = Ideal.ofBits .f32 (lit0 (S384x384.rowMajor (ix2 l k))) := by
  after_reads_simp
  rfl

theorem r0_v3 (j : Fin 768) : StableHlo.after hostOps0 U (Proc.devRef .tc main_v3) (ix2 0 j) = U (Proc.devRef .tc main_arg4) (ix1 j) := by
  after_reads_at

theorem r22_v14 (j : Fin 768) : StableHlo.after hostOps2_2 U (Proc.devRef .tc main_v14) (ix2 0 j) = U (Proc.devRef .tc main_arg10) (ix1 j) := by
  after_reads_at

theorem r22_v15 (j : Fin 768) : StableHlo.after hostOps2_2 U (Proc.devRef .tc main_v15) (ix2 0 j) = U (Proc.devRef .tc main_arg12) (ix1 j) := by
  after_reads_at

theorem r22_v16 (j : Fin 768) : StableHlo.after hostOps2_2 U (Proc.devRef .tc main_v16) (ix2 0 j) = U (Proc.devRef .tc main_arg14) (ix1 j) := by
  after_reads_at

theorem r22_v17 (j : Fin 768) : StableHlo.after hostOps2_2 U (Proc.devRef .tc main_v17) (ix2 0 j) = U (Proc.devRef .tc main_arg16) (ix1 j) := by
  after_reads_at

theorem r22_v18 (j : Fin 768) : StableHlo.after hostOps2_2 U (Proc.devRef .tc main_v18) (ix2 0 j) = U (Proc.devRef .tc main_arg17) (ix1 j) := by
  after_reads_at

theorem r22_v19 (j : Fin 768) : StableHlo.after hostOps2_2 U (Proc.devRef .tc main_v19) (ix2 0 j) = U (Proc.devRef .tc main_arg18) (ix1 j) := by
  after_reads_at

theorem r3_v29 (j : Fin 768) : StableHlo.after hostOps3 U (Proc.devRef .tc main_v29) (ix2 0 j) = U (Proc.devRef .tc main_arg23) (ix1 j) := by
  after_reads_at

theorem r3_v30 (j : Fin 768) : StableHlo.after hostOps3 U (Proc.devRef .tc main_v30) (ix2 0 j) = U (Proc.devRef .tc main_arg25) (ix1 j) := by
  after_reads_at

theorem r3_v31 (j : Fin 768) : StableHlo.after hostOps3 U (Proc.devRef .tc main_v31) (ix2 0 j) = U (Proc.devRef .tc main_arg27) (ix1 j) := by
  after_reads_at

end Cert.KernelIdeal.H

end
-- ==== Proof.R0.lean ====
/- The front kernel: its result array, entry by entry. -/
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.R0

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx : ∀ t : Fin cfg0.N, win0_0.index t = ![t.val, 0, 0] ∧ win0_1.index t = ![0, 0] ∧ win0_2.index t = ![t.val, 0, 0] ∧ win0_3.index t = ![0, 0]
    ∧ win0_4.index t = ![0, 0] ∧ win0_5.index t = ![0, 0] ∧ win0_6.index t = ![0, 0] ∧ win0_7.index t = ![t.val, 0, 0, 0] :=
  (by decide +kernel : ∀ t : Fin grid0.N, _)

abbrev in0 (c : Dev nD) : FVec Ideal S2x64x768 .f32 := V c (Pipeline.arrRef spec0 0)
abbrev in1 (c : Dev nD) : FVec Ideal S384x384 .f32 := V c (Pipeline.arrRef spec0 1)
abbrev in2 (c : Dev nD) : FVec Ideal S2x1x768 .f32 := V c (Pipeline.arrRef spec0 2)
abbrev in3 (c : Dev nD) : FVec Ideal S768x1536 .f32 := V c (Pipeline.arrRef spec0 3)
abbrev in4 (c : Dev nD) : FVec Ideal S1x768 .f32 := V c (Pipeline.arrRef spec0 4)
abbrev in5 (c : Dev nD) : FVec Ideal S3072x768 .f32 := V c (Pipeline.arrRef spec0 5)
abbrev in6 (c : Dev nD) : FVec Ideal S1x3072 .f32 := V c (Pipeline.arrRef spec0 6)

/-- The number standing past the end of the sequence. -/
abbrev neg : EReal := Ideal.ofBits .f32 0xF149F2CA#32

/-- Row `m` of the stacked sliding maxima. -/
def stk (s : Fin 64 → EReal) (m : ℕ) : EReal := Spec.slide neg s (m / 64) (m % 64)

/-- The combined row before its nonlinearity: spans `g` by rows of the permutation `p`. -/
def comb (s : Fin 64 → Fin 768 → EReal) (p : Fin 384 → EReal) (pool : Fin 768 → EReal) (W : FVec Ideal S768x1536 .f32) (b : FVec Ideal S1x768 .f32) (d : Fin 768) : EReal :=
  (∑ x : Fin 768, (∑ m : Fin 384, p m * stk (fun i => s i x) m.val) * W (ix2 d ⟨x.val, by omega⟩))
    + (∑ x : Fin 768, pool x * W (ix2 d ⟨768 + x.val, by omega⟩)) + b (ix2 0 d)

/-- An entry of the gates' inputs. -/
def gates (s : Fin 64 → Fin 768 → EReal) (p : Fin 384 → EReal) (pool : Fin 768 → EReal) (W : FVec Ideal S768x1536 .f32) (b : FVec Ideal S1x768 .f32)
    (Wih : FVec Ideal S3072x768 .f32) (bb : FVec Ideal S1x3072 .f32) (j : Fin 3072) : EReal :=
  (∑ x : Fin 768, Ideal.tanh (comb s p pool W b x) * Wih (ix2 j x)) + bb (ix2 0 j)

variable (x0 : FVec Ideal S1x64x768 .f32) (x1 : FVec Ideal S384x384 .f32) (x2 : FVec Ideal S1x1x768 .f32) (x3 : FVec Ideal S768x1536 .f32)
  (x4 : FVec Ideal S1x768 .f32) (x5 : FVec Ideal S3072x768 .f32) (x6 : FVec Ideal S1x3072 .f32)

theorem pos_shift (s : Fin 64 → EReal) (K k i : ℕ) (hK : K + k = 64) (pf : i < K → k + i < 64) :
    (if h : i < K then s ⟨k + i, pf h⟩ else neg) = Spec.pos neg s (i + k) := by
  unfold Spec.pos
  by_cases h : i < K
  · rw [dif_pos h, dif_pos (by omega)]
    exact congrArg s (Fin.ext (Nat.add_comm k i))
  · rw [dif_neg h, dif_neg (by omega)]

theorem pos_zero (s : Fin 64 → EReal) (i : ℕ) (h : i < 64) : s ⟨i, h⟩ = Spec.pos neg s i := (Spec.pos_of_lt neg s h).symm

theorem stk_eq (s : Fin 64 → EReal) (m w r : ℕ) (h : m = 64 * w + r) (hr : r < 64) : stk s m = Spec.slide neg s w r := by
  unfold stk
  rw [show m / 64 = w by omega, show m % 64 = r by omega]

/-- The stacked maxima as the joined pieces read them. -/
theorem nest (s : Fin 64 → EReal) (m : ℕ) (hm : m < 384) :
    (if h : m < 64 then s ⟨m, h⟩
      else if h : m - 64 < 64 then max (s ⟨m - 64, h⟩) (if h' : m - 64 < 63 then s ⟨1 + (m - 64), by omega⟩ else neg)
      else if h : m - 64 - 64 < 64 then max (max (s ⟨m - 64 - 64, h⟩) (if h' : m - 64 - 64 < 63 then s ⟨1 + (m - 64 - 64), by omega⟩ else neg)) (if h' : m - 64 - 64 < 62 then s ⟨2 + (m - 64 - 64), by omega⟩ else neg)
      else if h : m - 64 - 64 - 64 < 64 then max (max (max (s ⟨m - 64 - 64 - 64, h⟩) (if h' : m - 64 - 64 - 64 < 63 then s ⟨1 + (m - 64 - 64 - 64), by omega⟩ else neg)) (if h' : m - 64 - 64 - 64 < 62 then s ⟨2 + (m - 64 - 64 - 64), by omega⟩ else neg)) (if h' : m - 64 - 64 - 64 < 61 then s ⟨3 + (m - 64 - 64 - 64), by omega⟩ else neg)
      else if h : m - 64 - 64 - 64 - 64 < 64 then max (max (max (max (s ⟨m - 64 - 64 - 64 - 64, h⟩) (if h' : m - 64 - 64 - 64 - 64 < 63 then s ⟨1 + (m - 64 - 64 - 64 - 64), by omega⟩ else neg)) (if h' : m - 64 - 64 - 64 - 64 < 62 then s ⟨2 + (m - 64 - 64 - 64 - 64), by omega⟩ else neg)) (if h' : m - 64 - 64 - 64 - 64 < 61 then s ⟨3 + (m - 64 - 64 - 64 - 64), by omega⟩ else neg)) (if h' : m - 64 - 64 - 64 - 64 < 60 then s ⟨4 + (m - 64 - 64 - 64 - 64), by omega⟩ else neg)
      else max (max (max (max (max (s ⟨m - 64 - 64 - 64 - 64 - 64, by omega⟩) (if h' : m - 64 - 64 - 64 - 64 - 64 < 63 then s ⟨1 + (m - 64 - 64 - 64 - 64 - 64), by omega⟩ else neg)) (if h' : m - 64 - 64 - 64 - 64 - 64 < 62 then s ⟨2 + (m - 64 - 64 - 64 - 64 - 64), by omega⟩ else neg)) (if h' : m - 64 - 64 - 64 - 64 - 64 < 61 then s ⟨3 + (m - 64 - 64 - 64 - 64 - 64), by omega⟩ else neg)) (if h' : m - 64 - 64 - 64 - 64 - 64 < 60 then s ⟨4 + (m - 64 - 64 - 64 - 64 - 64), by omega⟩ else neg)) (if h' : m - 64 - 64 - 64 - 64 - 64 < 59 then s ⟨5 + (m - 64 - 64 - 64 - 64 - 64), by omega⟩ else neg)) = stk s m := by
  simp only [pos_shift s 63 1 _ rfl, pos_shift s 62 2 _ rfl, pos_shift s 61 3 _ rfl, pos_shift s 60 4 _ rfl, pos_shift s 59 5 _ rfl]
  by_cases h0 : m < 64
  · rw [dif_pos h0, stk_eq _ m 0 (m) (by omega) (by omega), pos_zero s]; rfl
  rw [dif_neg h0]
  by_cases h1 : m - 64 < 64
  · rw [dif_pos h1, stk_eq _ m 1 (m - 64) (by omega) (by omega), pos_zero s]; rfl
  rw [dif_neg h1]
  by_cases h2 : m - 64 - 64 < 64
  · rw [dif_pos h2, stk_eq _ m 2 (m - 64 - 64) (by omega) (by omega), pos_zero s]; rfl
  rw [dif_neg h2]
  by_cases h3 : m - 64 - 64 - 64 < 64
  · rw [dif_pos h3, stk_eq _ m 3 (m - 64 - 64 - 64) (by omega) (by omega), pos_zero s]; rfl
  rw [dif_neg h3]
  by_cases h4 : m - 64 - 64 - 64 - 64 < 64
  · rw [dif_pos h4, stk_eq _ m 4 (m - 64 - 64 - 64 - 64) (by omega) (by omega), pos_zero s]; rfl
  rw [dif_neg h4]
  rw [stk_eq _ m 5 (m - 64 - 64 - 64 - 64 - 64) (by omega) (by omega), pos_zero s]; rfl

/-- The first 768 columns of the weights. -/
abbrev wlo : FVec Ideal S768x768 .f32 := View.ld (Val := Elt Ideal) (e' := .f32) x3 r0_2

/-- The last 768 columns of the weights. -/
abbrev whi : FVec Ideal S768x768 .f32 := View.ld (Val := Elt Ideal) (e' := .f32) x3 r0_4

theorem lo (k n : Fin 768) : wlo x3 (ix2 n k) = x3 (ix2 n ⟨k.val, by omega⟩) := by
  refine congrArg x3 ?_
  funext a
  refine Fin.ext ?_
  fin_cases a
  · show 0 + 1 * n.val = n.val; omega
  · show 0 + 1 * k.val = k.val; omega

theorem hi (k n : Fin 768) : whi x3 (ix2 n k) = x3 (ix2 n ⟨768 + k.val, by omega⟩) := by
  refine congrArg x3 ?_
  funext a
  refine Fin.ext ?_
  fin_cases a
  · show 0 + 1 * n.val = n.val; omega
  · show 768 + 1 * k.val = 768 + k.val; omega

theorem pay2_var (w1 w2 : FVec Ideal S768x768 .f32) (l : Fin 384) (d : Fin 768) :
    k0_pay2 (F := Ideal) x0 x1 w1 x2 w2 x4 (ix2 l d)
      = (∑ x : Fin 768, (∑ m : Fin 384, x1 (ix2 l m) * stk (fun i => x0 (ix3 0 i x)) m.val) * w1 (ix2 d x)) + (∑ x : Fin 768, x2 (ix3 0 0 x) * w2 (ix2 d x)) + x4 (ix2 0 d) := by
  pointwise [k0_pay2]
  refine congrArg₂ (· + ·) (congrArg₂ (· + ·) (Finset.sum_congr rfl fun x _ => Ideal.mul_congr (Finset.sum_congr rfl fun m _ => congrArg (x1 _ * ·) ?_) rfl) rfl) rfl
  exact nest (fun i => x0 (ix3 0 i x)) m.val m.isLt

theorem pay2_at (l : Fin 384) (d : Fin 768) :
    k0_pay2 (F := Ideal) x0 x1 (wlo x3) x2 (whi x3) x4 (ix2 l d)
      = comb (fun i x => x0 (ix3 0 i x)) (fun m => x1 (ix2 l m)) (fun x => x2 (ix3 0 0 x)) x3 x4 d :=
  (pay2_var x0 x1 x2 x4 (wlo x3) (whi x3) l d).trans
    (congrArg₂ (· + ·) (congrArg₂ (· + ·) (Finset.sum_congr rfl fun x _ => congrArg (_ * ·) (lo x3 x d)) (Finset.sum_congr rfl fun x _ => congrArg (_ * ·) (hi x3 x d))) rfl)

theorem pay1_var (v : FVec Ideal S384x768 .f32) (l : Fin 384) (d : Fin 3072) :
    k0_pay1 (F := Ideal) v x5 x6 (ix4 0 l 0 d) = (∑ x : Fin 768, Ideal.tanh (v (ix2 l x)) * x5 (ix2 d x)) + x6 (ix2 0 d) := by
  pointwise [k0_pay1]

theorem hz2 : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

theorem body (y : S1x384x1x3072.Idx) : out0_7 (F := Ideal) x0 x1 x2 x3 x4 x5 x6 y
    = gates (fun i x => x0 (ix3 0 i x)) (fun m => x1 (ix2 (y 1) m)) (fun x => x2 (ix3 0 0 x)) x3 x4 x5 x6 (y 3) := by
  unfold out0_7
  rw [View.ld_unit_zero hz3, View.ld_unit_zero hz2, View.ld_unit_zero hz3, View.ld_unit_zero hz2, View.ld_unit_zero hz2, View.ld_unit_zero hz2]
  refine (congrFun (View.canon_unit_zero hz4 _ _) y).trans ?_
  idx_vars y
  obtain rfl : y0 = 0 := Subsingleton.elim _ _
  obtain rfl : y2 = 0 := Subsingleton.elim _ _
  refine (pay1_var x5 x6 _ y1 y3).trans ?_
  exact congrArg (· + _) (Finset.sum_congr rfl fun x _ => congrArg (fun z => Ideal.tanh z * _) (pay2_at x0 x1 x2 x3 x4 y1 x))

theorem blk0 (c : Dev nD) (t : Fin cfg0.N) (l : Fin 64) (x : Fin 768) :
    iblk0 V c 0 t (ix3 0 l x : S1x64x768.Idx) = in0 V c (ix3 (⟨t.val, t.isLt⟩ : Fin 2) l x) := by
  blk_ext [iblk0, idx t]

theorem blk2 (c : Dev nD) (t : Fin cfg0.N) (x : Fin 768) :
    iblk0 V c 2 t (ix3 0 0 x : S1x1x768.Idx) = in2 V c (ix3 (⟨t.val, t.isLt⟩ : Fin 2) 0 x) := by
  blk_ext [iblk0, idx t]

theorem blk1 (c : Dev nD) (t : Fin cfg0.N) : (iblk0 V c 1 t : FVec Ideal S384x384 .f32) = in1 V c := by
  funext j
  idx_vars j
  blk_ext [iblk0, idx t]

theorem blk3 (c : Dev nD) (t : Fin cfg0.N) : (iblk0 V c 3 t : FVec Ideal S768x1536 .f32) = in3 V c := by
  funext j
  idx_vars j
  blk_ext [iblk0, idx t]

theorem blk4 (c : Dev nD) (t : Fin cfg0.N) : (iblk0 V c 4 t : FVec Ideal S1x768 .f32) = in4 V c := by
  funext j
  idx_vars j
  blk_ext [iblk0, idx t]

theorem blk5 (c : Dev nD) (t : Fin cfg0.N) : (iblk0 V c 5 t : FVec Ideal S3072x768 .f32) = in5 V c := by
  funext j
  idx_vars j
  blk_ext [iblk0, idx t]

theorem blk6 (c : Dev nD) (t : Fin cfg0.N) : (iblk0 V c 6 t : FVec Ideal S1x3072 .f32) = in6 V c := by
  funext j
  idx_vars j
  blk_ext [iblk0, idx t]

/-- Entry (batch, row, gate) of the result. -/
def gx (s : FVec Ideal S2x64x768 .f32) (p : FVec Ideal S384x384 .f32) (pool : FVec Ideal S2x1x768 .f32) (W : FVec Ideal S768x1536 .f32) (b : FVec Ideal S1x768 .f32)
    (Wih : FVec Ideal S3072x768 .f32) (bb : FVec Ideal S1x3072 .f32) (n : Fin 2) (l : Fin 384) (j : Fin 3072) : EReal :=
  gates (fun i x => s (ix3 n i x)) (fun m => p (ix2 l m)) (fun x => pool (ix3 n 0 x)) W b Wih bb j

theorem point (c : Dev nD) (t : Fin cfg0.N) (y : S1x384x1x3072.Idx) (b : Fin 2) (l : Fin 384) (d : Fin 3072)
    (hb : b.val = t.val) (hl : l.val = (y 1).val) (hd : d.val = (y 3).val) :
    out0_7 (F := Ideal) (iblk0 V c 0 t) (iblk0 V c 1 t) (iblk0 V c 2 t) (iblk0 V c 3 t) (iblk0 V c 4 t) (iblk0 V c 5 t) (iblk0 V c 6 t) y
      = gx (in0 V c) (in1 V c) (in2 V c) (in3 V c) (in4 V c) (in5 V c) (in6 V c) b l d := by
  obtain rfl : b = ⟨t.val, t.isLt⟩ := Fin.ext hb
  obtain rfl : l = (y 1 : Fin 384) := Fin.ext hl
  obtain rfl : d = (y 3 : Fin 3072) := Fin.ext hd
  rw [body, blk1, blk3, blk4, blk5, blk6]
  unfold gx
  refine congrArg₂ (fun f g => gates f (fun m => in1 V c (ix2 (y 1 : Fin 384) m)) g (in3 V c) (in4 V c) (in5 V c) (in6 V c) (y 3 : Fin 3072)) ?_ ?_
  · exact funext fun i => funext fun x => blk0 V c t i x
  · exact funext fun x => blk2 V c t x

theorem final (c : Dev nD) :
    (dat0 V c).arrAt 7 cfg0.N = fun j : S2x384x1x3072.Idx => gx (in0 V c) (in1 V c) (in2 V c) (in3 V c) (in4 V c) (in5 V c) (in6 V c) (j 0) (j 1) (j 3) := by
  refine (dat0 V c).arrAt_eq_of_covers 7 _ (by decide +kernel) fun t _ y => ?_
  blk_simp
  rw [after0_7]
  refine point V c t y _ _ _ ?_ ?_ ?_
  all_goals blk_simp [idx t]

end Cert.KernelIdeal.R0
-- ==== Proof.R1.lean ====
/- The recurrent kernel: its result array, entry by entry. -/
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.R1

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx : ∀ t : Fin cfg1.N, win1_0.index t = ![t.val, 0, 0, 0] ∧ win1_1.index t = ![0, 0] ∧ win1_2.index t = ![t.val, 0, 0, 0] :=
  (by decide +kernel : ∀ t : Fin grid1.N, _)

theorem off1_eq : ∀ k : Fin k1_t1_loop.trips, k1_off1 k = ![0, k.val, 0, 0] := by decide +kernel
theorem off2_eq : ∀ k : Fin k1_t1_loop.trips, k1_off2 k = ![0, k.val, 0, 0] := by decide +kernel

theorem hz2 : (![0, 0] : Fin 2 → ℕ) = fun _ => 0 := by funext a; fin_cases a <;> rfl

variable (𝒱 : Variants) (c : Dev nD) (bd : Option 𝒱.V) (i : grid1.Coords) (arg1 : Memref sig .tc .vmem S1x384x1x3072 .f32) (harg1 : arg1.IsWhole) (arg2 : Memref sig .tc .vmem S768x3072 .f32) (harg2 : arg2.IsWhole) (arg3 : Memref sig .tc .vmem S1x384x1x768 .f32) (harg3 : arg3.IsWhole)
  (x0 : FVec Ideal S1x384x1x3072 .f32) (x1 : FVec Ideal S768x3072 .f32)

/-- Row `k` of the block of gates. -/
def row (k : Fin k1_t1_loop.trips) : FVec Ideal S1x1x1x3072 .f32 := fun j => x0 (ix4 0 ⟨k.val, k.isLt⟩ 0 (j 3))

theorem read0 (k : Fin k1_t1_loop.trips) (inb) :
    View.readAt (Elt Ideal) arg1.view (Rect.unit (s := S1x384x1x3072) (k1_off1 k) S1x1x1x3072.size inb).toLoadRect (harg1.unread x0) = row x0 k := by
  rw [View.readAt_eq_ld, harg1.read_unread]
  funext j
  refine congrArg x0 ?_
  have h : ∀ a : Fin 4, ((Rect.unit (s := S1x384x1x3072) (k1_off1 k) S1x1x1x3072.size inb).idx j a).val = k1_off1 k a + 1 * (j a).val := fun _ => rfl
  idx_bounds j
  funext a
  refine Fin.ext ?_
  fin_cases a
  · exact (h 0).trans (by rw [congrFun (off1_eq k) 0]; show 0 + 1 * (j 0).val = 0; omega)
  · exact (h 1).trans (by rw [congrFun (off1_eq k) 1]; show k.val + 1 * (j 1).val = k.val; omega)
  · exact (h 2).trans (by rw [congrFun (off1_eq k) 2]; show 0 + 1 * (j 2).val = 0; omega)
  · exact (h 3).trans (by rw [congrFun (off1_eq k) 3]; show 0 + 1 * (j 3).val = (j 3).val; omega)

theorem read1 (inb) :
    View.readAt (Elt Ideal) arg2.view (Rect.unit (s := S768x3072) ![0, 0] S768x3072.size inb).toLoadRect (harg2.unread x1) = x1 := by
  rw [View.readAt_eq_ld, harg2.read_unread]
  exact View.ld_unit_zero hz2 _ _

theorem tripR_eq (k : Fin k1_t1_loop.trips) (acc : FVec Ideal S1x768 .f32 × FVec Ideal S1x768 .f32) :
    tripR_k1_t1 (F := Ideal) 𝒱 c bd i arg1 harg1 arg2 harg2 arg3 harg3 (harg1.unread x0) (harg2.unread x1) k acc
      = (k1_pay4 acc.1 acc.2 (row x0 k) x1, k1_pay3 acc.1 acc.2 (row x0 k) x1) := by
  unfold tripR_k1_t1 trip_k1_t1
  dsimp only
  rw [read0, read1]

theorem tripL_eq (k : Fin k1_t1_loop.trips) (acc : FVec Ideal S1x768 .f32 × FVec Ideal S1x768 .f32) :
    tripL_k1_t1 (F := Ideal) 𝒱 c bd i arg1 harg1 arg2 harg2 arg3 harg3 (harg1.unread x0) (harg2.unread x1) k acc
      = [⟨Rect.unit (s := S1x384x1x768) (k1_off2 k) S1x1x1x768.size (k1_off2_inb k), k1_pay5 acc.1 acc.2 (row x0 k) x1⟩] := by
  unfold tripL_k1_t1 trip_k1_t1
  dsimp only
  rw [read0, read1]

/-- The states of the recurrence over the block's rows. -/
def states (n : ℕ) : (Fin 768 → EReal) × (Fin 768 → EReal) :=
  Spec.lstm (Spec.rowN fun (l : Fin 384) j => x0 (ix4 0 l 0 j)) (fun k j => x1 (ix2 k j)) n

theorem pay3_at (h c0 : FVec Ideal S1x768 .f32) (g : FVec Ideal S1x1x1x3072 .f32) (d : Fin 768) :
    k1_pay3 h c0 g x1 (ix2 0 d) = Spec.cellC (fun j => g (ix4 0 0 0 j)) (fun k j => x1 (ix2 k j)) (fun k => h (ix2 0 k)) (fun k => c0 (ix2 0 k)) d := by
  pointwise [k1_pay3, k1_pay2, Spec.cellC, Spec.gate]

theorem pay4_at (h c0 : FVec Ideal S1x768 .f32) (g : FVec Ideal S1x1x1x3072 .f32) (d : Fin 768) :
    k1_pay4 h c0 g x1 (ix2 0 d) = Spec.cellH (fun j => g (ix4 0 0 0 j)) (fun k j => x1 (ix2 k j)) (fun k => h (ix2 0 k)) (fun k => c0 (ix2 0 k)) d := by
  unfold Spec.cellH
  rw [← pay3_at]
  pointwise [k1_pay4, k1_pay2, Spec.gate]

abbrev st (n : ℕ) :=
  st_k1_t1 (F := Ideal) 𝒱 c bd i arg1 harg1 arg2 harg2 arg3 harg3 (harg1.unread x0) (harg2.unread x1) (k1_pay1, k1_pay1) n

theorem st_fst : ∀ n ≤ 384, (st 𝒱 c bd i arg1 harg1 arg2 harg2 arg3 harg3 x0 x1 n).1
    = (fun j : S1x768.Idx => (states x0 x1 n).1 (j 1), fun j : S1x768.Idx => (states x0 x1 n).2 (j 1))
  | 0, _ => by
    refine Prod.ext ?_ ?_ <;> (funext j; idx_vars j; show (k1_pay1 (F := Ideal) (ix2 j0 j1) : EReal) = 0; pointwise [k1_pay1])
  | n + 1, hn => by
    have hk : n < k1_t1_loop.trips := hn
    have e := st_k1_t1_succ (F := Ideal) 𝒱 c bd i arg1 harg1 arg2 harg2 arg3 harg3 (harg1.unread x0) (harg2.unread x1) (k1_pay1, k1_pay1) ⟨n, hk⟩
    refine (congrArg Prod.fst e).trans ?_
    dsimp only
    rw [tripR_eq, st_fst n (by omega)]
    have hg : (Spec.rowN fun (l : Fin 384) j => x0 (ix4 0 l 0 j)) n = fun j => row x0 ⟨n, hk⟩ (ix4 0 0 0 j) := Spec.rowN_of_lt _ hk
    refine Prod.ext ?_ ?_ <;> (funext j; idx_vars j)
    · obtain rfl : j0 = 0 := Subsingleton.elim _ _
      refine (pay4_at _ _ _ _ _).trans ?_
      show _ = Spec.cellH _ _ _ _ _
      rw [hg]; rfl
    · obtain rfl : j0 = 0 := Subsingleton.elim _ _
      refine (pay3_at _ _ _ _ _).trans ?_
      show _ = Spec.cellC _ _ _ _ _
      rw [hg]; rfl

theorem pay5_at (h c0 : FVec Ideal S1x768 .f32) (g : FVec Ideal S1x1x1x3072 .f32) (x : S1x1x1x768.Idx) :
    k1_pay5 h c0 g x1 x = k1_pay4 h c0 g x1 (ix2 0 (x 3)) := by
  pointwise [k1_pay5]

/-- The result block: row `l` holds the hidden state after row `l`. -/
def G (y : S1x384x1x768.Idx) : EReal := (states x0 x1 ((y 1).val + 1)).1 (y 3)

theorem pieces : ∀ n ≤ 384, ∀ p ∈ (st 𝒱 c bd i arg1 harg1 arg2 harg2 arg3 harg3 x0 x1 n).2, ∀ x : p.1.shape.Idx, p.2 x = G x0 x1 (p.1.emb x)
  | 0, _ => fun p hp => absurd hp (List.not_mem_nil)
  | n + 1, hn => by
    have hk : n < k1_t1_loop.trips := hn
    have e := st_k1_t1_succ (F := Ideal) 𝒱 c bd i arg1 harg1 arg2 harg2 arg3 harg3 (harg1.unread x0) (harg2.unread x1) (k1_pay1, k1_pay1) ⟨n, hk⟩
    intro p hp
    rw [show (st 𝒱 c bd i arg1 harg1 arg2 harg2 arg3 harg3 x0 x1 (n + 1)).2 = _ from congrArg Prod.snd e] at hp
    dsimp only at hp
    rw [tripL_eq] at hp
    rcases List.mem_append.mp hp with hp | hp
    · obtain rfl := List.mem_singleton.mp hp
      have h : ∀ (x : S1x1x1x768.Idx) (a : Fin 4), ((Rect.unit (s := S1x384x1x768) (k1_off2 ⟨n, hk⟩) S1x1x1x768.size (k1_off2_inb ⟨n, hk⟩)).emb x a).val
          = k1_off2 ⟨n, hk⟩ a + 1 * (x a).val := fun _ _ => rfl
      intro x
      have h1 := h x 1
      have h3 := h x 3
      have hx : (x 1 : Fin 1).val = 0 := Nat.lt_one_iff.mp (x 1 : Fin 1).isLt
      rw [show k1_off2 ⟨n, hk⟩ 1 = n from congrFun (off2_eq ⟨n, hk⟩) 1, hx] at h1
      rw [show k1_off2 ⟨n, hk⟩ 3 = 0 from congrFun (off2_eq ⟨n, hk⟩) 3] at h3
      refine (show k1_pay5 (F := Ideal) _ _ _ _ (x : S1x1x1x768.Idx) = _ from ?_)
      refine (pay5_at _ _ _ _ x).trans ?_
      rw [st_fst _ _ _ _ _ _ _ _ _ _ _ _ n (by omega)]
      refine (pay4_at _ _ _ _ _).trans ?_
      have hg : (Spec.rowN fun (l : Fin 384) j => x0 (ix4 0 l 0 j)) n = fun j => row x0 ⟨n, hk⟩ (ix4 0 0 0 j) := Spec.rowN_of_lt _ hk
      rw [← hg]
      unfold G
      rw [h1]
      exact congrArg (states x0 x1 (n + 1)).1 (Fin.ext (by rw [h3]; omega))
    · exact pieces n (by omega) p hp

theorem body (t : Fin cfg1.N) (y : S1x384x1x768.Idx) :
    out1_A_2 (F := Ideal) c (grid1.coords t) (ms1_0 t) (hs1_0 t) (ms1_1 t) (hs1_1 t) (ms1_2 t) (hs1_2 t) x0 x1 y = G x0 x1 y := by
  unfold out1_A_2
  refine (congrFun (View.read_writes_eq_canon _ _ _ (cover1_A_2 (F := Ideal) c (grid1.coords t) (ms1_0 t) (hs1_0 t) (ms1_1 t) (hs1_1 t) (ms1_2 t) (hs1_2 t) x0 x1)) y).trans ?_
  refine View.canon_apply_of_pieces (G x0 x1) _ ?_ y (cover1_A_2 (F := Ideal) c (grid1.coords t) (ms1_0 t) (hs1_0 t) (ms1_1 t) (hs1_1 t) (ms1_2 t) (hs1_2 t) x0 x1 y)
  unfold kernelRun1_A
  dsimp only
  exact pieces _ _ _ _ _ _ _ _ _ _ x0 x1 384 (le_refl _)

abbrev inG (c : Dev nD) : FVec Ideal S2x384x1x3072 .f32 := V c (Pipeline.arrRef spec1 0)
abbrev inW (c : Dev nD) : FVec Ideal S768x3072 .f32 := V c (Pipeline.arrRef spec1 1)

/-- Entry (batch, row, feature) of the result. -/
def ys (g : FVec Ideal S2x384x1x3072 .f32) (w : FVec Ideal S768x3072 .f32) (b : Fin 2) (l : Fin 384) (d : Fin 768) : EReal :=
  (Spec.lstm (Spec.rowN fun (l : Fin 384) j => g (ix4 b l 0 j)) (fun k j => w (ix2 k j)) (l.val + 1)).1 d

theorem blk0 (c : Dev nD) (t : Fin cfg1.N) (l : Fin 384) (x : Fin 3072) :
    iblk1 V c 0 t (ix4 0 l 0 x : S1x384x1x3072.Idx) = inG V c (ix4 (⟨t.val, t.isLt⟩ : Fin 2) l 0 x) := by
  blk_ext [iblk1, idx t]

theorem blk1 (c : Dev nD) (t : Fin cfg1.N) (k : Fin 768) (x : Fin 3072) :
    iblk1 V c 1 t (ix2 k x : S768x3072.Idx) = inW V c (ix2 k x) := by
  blk_ext [iblk1, idx t]

theorem point (c : Dev nD) (t : Fin cfg1.N) (y : S1x384x1x768.Idx) (b : Fin 2) (l : Fin 384) (d : Fin 768)
    (hb : b.val = t.val) (hl : l.val = (y 1).val) (hd : d.val = (y 3).val) :
    outsAt1 V c t y = ys (inG V c) (inW V c) b l d := by
  obtain rfl : b = ⟨t.val, t.isLt⟩ := Fin.ext hb
  obtain rfl : l = (y 1 : Fin 384) := Fin.ext hl
  obtain rfl : d = (y 3 : Fin 768) := Fin.ext hd
  unfold outsAt1
  refine (body c (iblk1 V c 0 t) (iblk1 V c 1 t) t y).trans ?_
  unfold G states ys
  rw [show (fun (l : Fin 384) (j : Fin 3072) => iblk1 V c 0 t (ix4 0 l 0 j : S1x384x1x3072.Idx)) = _ from
    funext fun l => funext fun j => blk0 V c t l j,
    show (fun (k : Fin 768) (j : Fin 3072) => iblk1 V c 1 t (ix2 k j : S768x3072.Idx)) = _ from
    funext fun k => funext fun j => blk1 V c t k j]

theorem final (c : Dev nD) :
    (dat1 V c).arrAt 2 cfg1.N = fun j : S2x384x1x768.Idx => ys (inG V c) (inW V c) (j 0) (j 1) (j 3) := by
  refine (dat1 V c).arrAt_eq_of_covers 2 _ (by decide +kernel) fun t _ y => ?_
  blk_simp
  rw [after1_2]
  refine point V c t y _ _ _ ?_ ?_ ?_
  all_goals blk_simp [idx t]

end Cert.KernelIdeal.R1
-- ==== Proof.R2.lean ====
/- The attention kernel: its result array, entry by entry. -/
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.R2

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

variable (c : Dev nD) (i : grid2.Coords)
  (arg1 : Memref sig .tc .vmem S1x384x768 .f32) (harg1 : arg1.IsWhole)
  (arg2 : Memref sig .tc .vmem S1x1x384 .f32) (harg2 : arg2.IsWhole)
  (arg3 : Memref sig .tc .vmem S768x768 .f32) (harg3 : arg3.IsWhole)
  (arg4 : Memref sig .tc .vmem S768x768 .f32) (harg4 : arg4.IsWhole)
  (arg5 : Memref sig .tc .vmem S768x768 .f32) (harg5 : arg5.IsWhole)
  (arg6 : Memref sig .tc .vmem S768x768 .f32) (harg6 : arg6.IsWhole)
  (arg7 : Memref sig .tc .vmem S1x768 .f32) (harg7 : arg7.IsWhole)
  (arg8 : Memref sig .tc .vmem S1x768 .f32) (harg8 : arg8.IsWhole)
  (arg9 : Memref sig .tc .vmem S1x768 .f32) (harg9 : arg9.IsWhole)
  (arg10 : Memref sig .tc .vmem S1x768 .f32) (harg10 : arg10.IsWhole)
  (arg11 : Memref sig .tc .vmem S1x768 .f32) (harg11 : arg11.IsWhole)
  (arg12 : Memref sig .tc .vmem S1x768 .f32) (harg12 : arg12.IsWhole)
  (arg13 : Memref sig .tc .vmem S1x384x768 .f32) (harg13 : arg13.IsWhole)
  (arg14 : Memref sig .tc .vmem S384x768 .f32) (harg14 : arg14.IsWhole)
  (arg15 : Memref sig .tc .vmem S384x768 .f32) (harg15 : arg15.IsWhole)
  (arg16 : Memref sig .tc .vmem S384x768 .f32) (harg16 : arg16.IsWhole)
  (arg17 : Memref sig .tc .vmem S384x768 .f32) (harg17 : arg17.IsWhole)
  (x0 : FVec Ideal S1x384x768 .f32)
  (x1 : FVec Ideal S1x1x384 .f32)
  (x2 : FVec Ideal S768x768 .f32)
  (x3 : FVec Ideal S768x768 .f32)
  (x4 : FVec Ideal S768x768 .f32)
  (x5 : FVec Ideal S768x768 .f32)
  (x6 : FVec Ideal S1x768 .f32)
  (x7 : FVec Ideal S1x768 .f32)
  (x8 : FVec Ideal S1x768 .f32)
  (x9 : FVec Ideal S1x768 .f32)
  (x10 : FVec Ideal S1x768 .f32)
  (x11 : FVec Ideal S1x768 .f32)

theorem hz2 : (![0, 0] : Fin 2 → ℕ) = fun _ => 0 := by funext a; fin_cases a <;> rfl
theorem hz3 : (![0, 0, 0] : Fin 3 → ℕ) = fun _ => 0 := by funext a; fin_cases a <;> rfl

/-- A whole load of a buffer holding `x` reads `x`. -/
theorem whole {S : Shape} (a : Memref sig .tc .vmem S .f32) (h : a.IsWhole) (x : FVec Ideal S .f32) {off : Fin S.rank → ℕ} (hz : off = fun _ => 0) (inb) :
    View.readAt (Elt Ideal) a.view (Rect.unit (s := S) off S.size inb).toLoadRect (h.unread x) = x := by
  rw [View.readAt_eq_ld, h.read_unread]
  exact View.ld_unit_zero hz _ _

/-- 64 columns of an array, from column `o`. -/
def cols (o : ℕ) (inb : ∀ a : Fin 2, (![0, o] : Fin 2 → ℕ) a + S384x64.size a ≤ S384x768.size a) (P : FVec Ideal S384x768 .f32) : FVec Ideal S384x64 .f32 :=
  View.ld (Val := Elt Ideal) (e' := .f32) P (Rect.unit (s := S384x768) ![0, o] S384x64.size inb)

theorem cov (a : Memref sig .tc .vmem S384x768 .f32) (P : FVec Ideal S384x768 .f32) (o : ℕ) (inb inb') :
    a.view.readCov [(⟨Rect.unit (s := S384x768) ![0, 0] S384x768.size inb', P⟩ : View.Piece (Elt Ideal) S384x768 .f32)] (Rect.unit (s := S384x768) ![0, o] S384x64.size inb).toLoadRect
      = cols o inb P := by
  rw [View.readCov_eq_canon _ _ _ fun j => View.cover_of_tiled _ S384x768.size (by rfl) _, View.canon_unit_zero hz2]
  rfl

/-- One head's output block. -/
def head (m : FVec Ideal S1x384 .f32) (Q K W : FVec Ideal S384x768 .f32) (o : ℕ) (inb : ∀ a : Fin 2, (![0, o] : Fin 2 → ℕ) a + S384x64.size a ≤ S384x768.size a) : FVec Ideal S384x64 .f32 :=
  k2_pay11 (F := Ideal) m (cols o inb Q) (cols o inb K) (cols o inb W)

def pc (m : FVec Ideal S1x384 .f32) (Q K W : FVec Ideal S384x768 .f32) (o : ℕ) (inb : ∀ a : Fin 2, (![0, o] : Fin 2 → ℕ) a + S384x64.size a ≤ S384x768.size a) : View.Piece (Elt Ideal) S384x768 .f32 :=
  ⟨Rect.unit (s := S384x768) ![0, o] S384x64.size inb, head m Q K W o inb⟩

abbrev mk : FVec Ideal S1x384 .f32 := k2_pay7 (F := Ideal) (iota .tc S1x384 32 [1] iota_S1x384_d1_w32) k2_pay6 x1
abbrev qq : FVec Ideal S384x768 .f32 := k2_pay3 (F := Ideal) x0 x2 x6
abbrev kk : FVec Ideal S384x768 .f32 := k2_pay4 (F := Ideal) x0 x3 x7
abbrev vv : FVec Ideal S384x768 .f32 := k2_pay5 (F := Ideal) x0 x4 x8

open kernelRun2_A.sl in
theorem readQ (o : ℕ) (inb) : arg14.view.readCov (HS0_1 (F := Ideal) c arg1 harg1 arg3 harg3 arg7 harg7 x0 x2 x6) (Rect.unit (s := S384x768) ![0, o] S384x64.size inb).toLoadRect = cols o inb (qq x0 x2 x6) := by
  unfold HS0_1
  rw [whole arg1 harg1 x0 hz3, whole arg3 harg3 x2 hz2, whole arg7 harg7 x6 hz2]
  exact cov _ _ _ _ _

open kernelRun2_A.sl in
theorem readK (o : ℕ) (inb) : arg15.view.readCov (HS1_1 (F := Ideal) c arg1 harg1 arg4 harg4 arg8 harg8 x0 x3 x7) (Rect.unit (s := S384x768) ![0, o] S384x64.size inb).toLoadRect = cols o inb (kk x0 x3 x7) := by
  unfold HS1_1
  rw [whole arg1 harg1 x0 hz3, whole arg4 harg4 x3 hz2, whole arg8 harg8 x7 hz2]
  exact cov _ _ _ _ _

open kernelRun2_A.sl in
theorem readV (o : ℕ) (inb) : arg16.view.readCov (HS2_1 (F := Ideal) c arg1 harg1 arg5 harg5 arg9 harg9 x0 x4 x8) (Rect.unit (s := S384x768) ![0, o] S384x64.size inb).toLoadRect = cols o inb (vv x0 x4 x8) := by
  unfold HS2_1
  rw [whole arg1 harg1 x0 hz3, whole arg5 harg5 x4 hz2, whole arg9 harg9 x8 hz2]
  exact cov _ _ _ _ _

open kernelRun2_A.sl in
theorem r1_eq : r_1 (F := Ideal) c arg2 harg2 x1 = mk x1 := by
  unfold r_1
  rw [whole arg2 harg2 x1 hz3]
  rfl

theorem readM (inb) : View.readAt (Elt Ideal) arg2.view (Rect.unit (s := S1x1x384) ![0, 0, 0] S1x1x384.size inb).toLoadRect (harg2.unread x1) = x1 :=
  whole arg2 harg2 x1 hz3 inb

section Heads

variable (m : FVec Ideal S1x384 .f32) (q k w : FVec Ideal S384x64 .f32) (a b : IVec S1x384 32) (x : FVec Ideal S1x1x384 .f32)

theorem pay8_eq : k2_pay8 (F := Ideal) a b x q k w = k2_pay11 (k2_pay7 a b x) q k w := rfl
theorem pay10_eq : k2_pay10 (F := Ideal) w (k2_pay9 a b x q k) = k2_pay11 (k2_pay7 a b x) q k w := rfl
theorem pay12_eq : k2_pay12 (F := Ideal) m q k w = k2_pay11 m q k w := rfl
theorem pay14_eq : k2_pay14 (F := Ideal) (k2_pay13 m q k w) = k2_pay11 m q k w := rfl
theorem pay15_eq : k2_pay15 (F := Ideal) m q k w = k2_pay11 m q k w := rfl
theorem pay17_eq : k2_pay17 (F := Ideal) w (k2_pay16 m q k) = k2_pay11 m q k w := rfl
theorem pay18_eq : k2_pay18 (F := Ideal) m q k w = k2_pay11 m q k w := rfl
theorem pay20_eq : k2_pay20 (F := Ideal) m w (k2_pay19 q k) = k2_pay11 m q k w := rfl
theorem pay21_eq : k2_pay21 (F := Ideal) m q k w = k2_pay11 m q k w := rfl
theorem pay22_eq : k2_pay22 (F := Ideal) m q k w = k2_pay11 m q k w := rfl
theorem pay25_eq : k2_pay25 (F := Ideal) w (k2_pay23 m q k) (k2_pay24 m q k) = k2_pay11 m q k w := rfl

end Heads

/-- A store of a head's output over the scratch reads is the head's piece. -/
theorem elt (o : ℕ) (inb : ∀ a : Fin 2, (![0, o] : Fin 2 → ℕ) a + S384x64.size a ≤ S384x768.size a) (p : FVec Ideal S384x64 .f32)
    (hp : p = k2_pay11 (F := Ideal) (kernelRun2_A.sl.r_1 (F := Ideal) c arg2 harg2 x1)
      (arg14.view.readCov (kernelRun2_A.sl.HS0_1 (F := Ideal) c arg1 harg1 arg3 harg3 arg7 harg7 x0 x2 x6) (Rect.unit (s := S384x768) ![0, o] S384x64.size inb).toLoadRect)
      (arg15.view.readCov (kernelRun2_A.sl.HS1_1 (F := Ideal) c arg1 harg1 arg4 harg4 arg8 harg8 x0 x3 x7) (Rect.unit (s := S384x768) ![0, o] S384x64.size inb).toLoadRect)
      (arg16.view.readCov (kernelRun2_A.sl.HS2_1 (F := Ideal) c arg1 harg1 arg5 harg5 arg9 harg9 x0 x4 x8) (Rect.unit (s := S384x768) ![0, o] S384x64.size inb).toLoadRect)) :
    (⟨Rect.unit (s := S384x768) ![0, o] S384x64.size inb, p⟩ : View.Piece (Elt Ideal) S384x768 .f32) = pc (mk x1) (qq x0 x2 x6) (kk x0 x3 x7) (vv x0 x4 x8) o inb := by
  rw [readQ, readK, readV, r1_eq] at hp
  subst hp
  rfl

open kernelRun2_A.sl in
theorem HS3_eq : HS3_12 (F := Ideal) c arg1 harg1 arg2 harg2 arg3 harg3 arg4 harg4 arg5 harg5 arg7 harg7 arg8 harg8 arg9 harg9 arg14 arg15 arg16 x0 x1 x2 x3 x4 x6 x7 x8
    = [pc (mk x1) (qq x0 x2 x6) (kk x0 x3 x7) (vv x0 x4 x8) 704 inb_S384x768_S384x64_0_704, pc (mk x1) (qq x0 x2 x6) (kk x0 x3 x7) (vv x0 x4 x8) 640 inb_S384x768_S384x64_0_640, pc (mk x1) (qq x0 x2 x6) (kk x0 x3 x7) (vv x0 x4 x8) 576 inb_S384x768_S384x64_0_576, pc (mk x1) (qq x0 x2 x6) (kk x0 x3 x7) (vv x0 x4 x8) 512 inb_S384x768_S384x64_0_512, pc (mk x1) (qq x0 x2 x6) (kk x0 x3 x7) (vv x0 x4 x8) 448 inb_S384x768_S384x64_0_448, pc (mk x1) (qq x0 x2 x6) (kk x0 x3 x7) (vv x0 x4 x8) 384 inb_S384x768_S384x64_0_384, pc (mk x1) (qq x0 x2 x6) (kk x0 x3 x7) (vv x0 x4 x8) 320 inb_S384x768_S384x64_0_320, pc (mk x1) (qq x0 x2 x6) (kk x0 x3 x7) (vv x0 x4 x8) 256 inb_S384x768_S384x64_0_256, pc (mk x1) (qq x0 x2 x6) (kk x0 x3 x7) (vv x0 x4 x8) 192 inb_S384x768_S384x64_0_192, pc (mk x1) (qq x0 x2 x6) (kk x0 x3 x7) (vv x0 x4 x8) 128 inb_S384x768_S384x64_0_128, pc (mk x1) (qq x0 x2 x6) (kk x0 x3 x7) (vv x0 x4 x8) 64 inb_S384x768_S384x64_0_64, pc (mk x1) (qq x0 x2 x6) (kk x0 x3 x7) (vv x0 x4 x8) 0 inb_S384x768_S384x64_0_0] := by
  have e := elt c arg1 harg1 arg2 harg2 arg3 harg3 arg4 harg4 arg5 harg5 arg7 harg7 arg8 harg8 arg9 harg9 arg14 arg15 arg16 x0 x1 x2 x3 x4 x6 x7 x8
  refine congrArg₂ List.cons (e 704 _ _ (pay25_eq _ _ _ _)) ?_
  refine congrArg₂ List.cons (e 640 _ _ (pay22_eq _ _ _ _)) ?_
  refine congrArg₂ List.cons (e 576 _ _ (pay21_eq _ _ _ _)) ?_
  refine congrArg₂ List.cons (e 512 _ _ (pay20_eq _ _ _ _)) ?_
  refine congrArg₂ List.cons (e 448 _ _ (pay18_eq _ _ _ _)) ?_
  refine congrArg₂ List.cons (e 384 _ _ (pay17_eq _ _ _ _)) ?_
  refine congrArg₂ List.cons (e 320 _ _ (pay15_eq _ _ _ _)) ?_
  refine congrArg₂ List.cons (e 256 _ _ (pay14_eq _ _ _ _)) ?_
  refine congrArg₂ List.cons (e 192 _ _ (pay12_eq _ _ _ _)) ?_
  refine congrArg₂ List.cons (e 128 _ _ (rfl)) ?_
  refine congrArg₂ List.cons (e 64 _ _ (pay10_eq _ _ _ _ _ _)) ?_
  refine congrArg₂ List.cons (e 0 _ _ (pay8_eq _ _ _ _ _ _)) ?_
  rfl

theorem pay11_at (m : FVec Ideal S1x384 .f32) (q k w : FVec Ideal S384x64 .f32) (l : Fin 384) (h : Fin 64) :
    k2_pay11 (F := Ideal) m q k w (ix2 l h)
      = Spec.soft (fun x : Fin 384 => (∑ e : Fin 64, q (ix2 l e) * k (ix2 x e)) * Ideal.ofBits .f32 1040187392#32 + m (ix2 0 x)) (fun x => w (ix2 x h)) := by
  pointwise [k2_pay11, Spec.soft]

theorem pay26_at (v1 ctx : FVec Ideal S384x768 .f32) (W : FVec Ideal S768x768 .f32) (bo g b : FVec Ideal S1x768 .f32) (l : Fin 384) (d : Fin 768) :
    k2_pay1 (k2_pay26 (F := Ideal) v1 ctx W bo g b) (ix3 0 l d)
      = Spec.norm (fun d => Spec.lin (fun (l : Fin 384) (x : Fin 768) => ctx (ix2 l x)) (fun (k x : Fin 768) => W (ix2 k x)) (fun k => bo (ix2 0 k)) l d + v1 (ix2 l d))
          (fun k => g (ix2 0 k)) (fun k => b (ix2 0 k)) d := by
  pointwise [k2_pay26, k2_pay1, Spec.norm, Spec.lin, Spec.mean]

/-- The mask row by entries. -/
def mrow (x : Fin 384) : EReal := if x.val < 369 then x1 (ix3 0 0 x) else ⊥

theorem lt_bit : ∀ x : Fin 384, IntOp.cmpi CmpIPredicate.slt (BitVec.ofNat 32 x.val) 369#32 = if x.val < 369 then 1#1 else 0#1 := by decide +kernel

theorem mask_bot : Named.named (F := Ideal) (φ := FTy.f32) κ "mask" 3463342888#32 = (⊥ : EReal) := IdealRules.named_const.ideal_named_scalar _ _ _ _ rfl

theorem pay7_at (x : Fin 384) : mk x1 (ix2 0 x) = mrow x1 x := by
  pointwise [k2_pay7, k2_pay6]
  rw [lt_bit, mask_bot]
  unfold mrow
  by_cases h : x.val < 369
  · rw [if_pos h, if_pos h]; rfl
  · rw [if_neg h, if_neg h]; rfl

abbrev lin2 (W : FVec Ideal S768x768 .f32) (b : FVec Ideal S1x768 .f32) : Fin 384 → Fin 768 → EReal :=
  Spec.lin (fun (l : Fin 384) x => x0 (ix3 0 l x)) (fun (k x : Fin 768) => W (ix2 k x)) (fun k => b (ix2 0 k))

theorem pay3_at (l : Fin 384) (d : Fin 768) : qq x0 x2 x6 (ix2 l d) = lin2 x0 x2 x6 l d := by
  pointwise [k2_pay3, k2_pay2, Spec.lin]

theorem pay4_at (l : Fin 384) (d : Fin 768) : kk x0 x3 x7 (ix2 l d) = lin2 x0 x3 x7 l d := by
  pointwise [k2_pay4, k2_pay2, Spec.lin]

theorem pay5_at (l : Fin 384) (d : Fin 768) : vv x0 x4 x8 (ix2 l d) = lin2 x0 x4 x8 l d := by
  pointwise [k2_pay5, k2_pay2, Spec.lin]

theorem pay2_at (l : Fin 384) (d : Fin 768) : k2_pay2 (F := Ideal) x0 (ix2 l d) = x0 (ix3 0 l d) := by
  pointwise [k2_pay2]

theorem cols_at (o : ℕ) (inb) (P : FVec Ideal S384x768 .f32) (l : Fin 384) (e : Fin 64) (d : Fin 768) (hd : d.val = o + e.val) :
    cols o inb P (ix2 l e) = P (ix2 l d) := by
  refine congrArg P ?_
  funext a
  refine Fin.ext ?_
  fin_cases a
  · show 0 + 1 * l.val = l.val; omega
  · show o + 1 * e.val = d.val; omega

abbrev ctxv : Fin 384 → Fin 768 → EReal := Spec.ctx (mrow x1) (lin2 x0 x2 x6) (lin2 x0 x3 x7) (lin2 x0 x4 x8)

/-- One head's block is that part of the heads' outputs. -/
theorem piece (k : Fin 12) (o : ℕ) (ho : o = 64 * k.val) (inb) (z : S384x64.Idx) :
    head (mk x1) (qq x0 x2 x6) (kk x0 x3 x7) (vv x0 x4 x8) o inb z
      = (fun y : S384x768.Idx => ctxv x0 x1 x2 x3 x4 x6 x7 x8 (y 0) (y 1)) ((Rect.unit (s := S384x768) ![0, o] S384x64.size inb).emb z) := by
  idx_vars z
  have hz1 : z1.val < 64 := z1.isLt
  have hlt : o + z1.val < 768 := by omega
  have e0 : (((Rect.unit (s := S384x768) ![0, o] S384x64.size inb).emb (ix2 z0 z1) 0 : Fin 384)) = z0 := Fin.ext (show 0 + 1 * z0.val = z0.val by omega)
  have e1 : (((Rect.unit (s := S384x768) ![0, o] S384x64.size inb).emb (ix2 z0 z1) 1 : Fin 768)) = ⟨o + z1.val, hlt⟩ := Fin.ext (show o + 1 * z1.val = o + z1.val by omega)
  show _ = ctxv x0 x1 x2 x3 x4 x6 x7 x8 _ _
  rw [e0, e1]
  unfold head
  rw [pay11_at]
  refine congrArg₂ Spec.soft (funext fun x => ?_) (funext fun x => ?_)
  · refine congrArg₂ (· + ·) (congrArg (· * _) (Finset.sum_congr rfl fun e _ => ?_)) (pay7_at x1 x)
    have hc : (Spec.hcol (⟨o + z1.val, hlt⟩ : Fin 768) e).val = o + e.val := by
      show (o + z1.val) / 64 * 64 + e.val = o + e.val
      omega
    rw [cols_at o inb _ _ _ _ hc, cols_at o inb _ _ _ _ hc, pay3_at, pay4_at]
    rfl
  · rw [cols_at o inb _ x z1 ⟨o + z1.val, hlt⟩ rfl, pay5_at]
    rfl

/-- The twelve heads' blocks, the last written first. -/
def pcs (m : FVec Ideal S1x384 .f32) (Q K W : FVec Ideal S384x768 .f32) : List (View.Piece (Elt Ideal) S384x768 .f32) :=
  [pc m Q K W 704 inb_S384x768_S384x64_0_704, pc m Q K W 640 inb_S384x768_S384x64_0_640, pc m Q K W 576 inb_S384x768_S384x64_0_576, pc m Q K W 512 inb_S384x768_S384x64_0_512, pc m Q K W 448 inb_S384x768_S384x64_0_448, pc m Q K W 384 inb_S384x768_S384x64_0_384, pc m Q K W 320 inb_S384x768_S384x64_0_320, pc m Q K W 256 inb_S384x768_S384x64_0_256, pc m Q K W 192 inb_S384x768_S384x64_0_192, pc m Q K W 128 inb_S384x768_S384x64_0_128, pc m Q K W 64 inb_S384x768_S384x64_0_64, pc m Q K W 0 inb_S384x768_S384x64_0_0]

theorem canon_pcs : View.canon (pcs (mk x1) (qq x0 x2 x6) (kk x0 x3 x7) (vv x0 x4 x8)) = fun y : S384x768.Idx => ctxv x0 x1 x2 x3 x4 x6 x7 x8 (y 0) (y 1) := by
  funext y
  refine View.canon_apply_of_pieces (fun y : S384x768.Idx => ctxv x0 x1 x2 x3 x4 x6 x7 x8 (y 0) (y 1)) (pcs (mk x1) (qq x0 x2 x6) (kk x0 x3 x7) (vv x0 x4 x8)) ?_ y (View.cover_of_tiled (pcs (mk x1) (qq x0 x2 x6) (kk x0 x3 x7) (vv x0 x4 x8)) S384x64.size (by rfl) y)
  intro p hp
  unfold pcs at hp
  simp only [List.mem_cons, List.not_mem_nil, or_false] at hp
  rcases hp with rfl | rfl | rfl | rfl | rfl | rfl | rfl | rfl | rfl | rfl | rfl | rfl
  exacts [piece x0 x1 x2 x3 x4 x6 x7 x8 11 704 rfl _, piece x0 x1 x2 x3 x4 x6 x7 x8 10 640 rfl _, piece x0 x1 x2 x3 x4 x6 x7 x8 9 576 rfl _, piece x0 x1 x2 x3 x4 x6 x7 x8 8 512 rfl _, piece x0 x1 x2 x3 x4 x6 x7 x8 7 448 rfl _, piece x0 x1 x2 x3 x4 x6 x7 x8 6 384 rfl _, piece x0 x1 x2 x3 x4 x6 x7 x8 5 320 rfl _, piece x0 x1 x2 x3 x4 x6 x7 x8 4 256 rfl _, piece x0 x1 x2 x3 x4 x6 x7 x8 3 192 rfl _, piece x0 x1 x2 x3 x4 x6 x7 x8 2 128 rfl _, piece x0 x1 x2 x3 x4 x6 x7 x8 1 64 rfl _, piece x0 x1 x2 x3 x4 x6 x7 x8 0 0 rfl _]

theorem ctx_read (inb) : arg17.view.readCov (kernelRun2_A.sl.HS3_12 (F := Ideal) c arg1 harg1 arg2 harg2 arg3 harg3 arg4 harg4 arg5 harg5 arg7 harg7 arg8 harg8 arg9 harg9 arg14 arg15 arg16 x0 x1 x2 x3 x4 x6 x7 x8) (Rect.unit (s := S384x768) ![0, 0] S384x768.size inb).toLoadRect
    = fun y : S384x768.Idx => ctxv x0 x1 x2 x3 x4 x6 x7 x8 (y 0) (y 1) := by
  refine (congrArg (fun L => arg17.view.readCov L (Rect.unit (s := S384x768) ![0, 0] S384x768.size inb).toLoadRect) ((HS3_eq c arg1 harg1 arg2 harg2 arg3 harg3 arg4 harg4 arg5 harg5 arg7 harg7 arg8 harg8 arg9 harg9 arg14 arg15 arg16 x0 x1 x2 x3 x4 x6 x7 x8).trans (show _ = pcs (mk x1) (qq x0 x2 x6) (kk x0 x3 x7) (vv x0 x4 x8) from rfl))).trans ?_
  refine (View.readCov_eq_canon' _ _ _).trans ?_
  rw [canon_pcs]
  exact View.ld_unit_zero (Val := Elt Ideal) (e := .f32) (S := S384x768) hz2 inb (fun y : S384x768.Idx => ctxv x0 x1 x2 x3 x4 x6 x7 x8 (y 0) (y 1))

/-- The last block of the layer, its arrays equal. -/
theorem out_congr {a a' b b' : FVec Ideal S384x768 .f32} {w w' : FVec Ideal S768x768 .f32} {p p' q q' r r' : FVec Ideal S1x768 .f32}
    (h1 : a = a') (h2 : b = b') (h3 : w = w') (h4 : p = p') (h5 : q = q') (h6 : r = r') :
    k2_pay26 (F := Ideal) a b w p q r = k2_pay26 a' b' w' p' q' r' := by
  subst h1 h2 h3 h4 h5 h6; rfl

open kernelRun2_A.sl in
theorem r8_eq : r_8 (F := Ideal) c arg1 harg1 arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10 x11 = k2_pay26 (k2_pay2 x0) (fun y : S384x768.Idx => ctxv x0 x1 x2 x3 x4 x6 x7 x8 (y 0) (y 1)) x5 x9 x10 x11 := by
  unfold r_8 r v288
  exact out_congr (congrArg k2_pay2 (whole arg1 harg1 x0 hz3 _)) (ctx_read c arg1 harg1 arg2 harg2 arg3 harg3 arg4 harg4 arg5 harg5 arg7 harg7 arg8 harg8 arg9 harg9 arg14 arg15 arg16 arg17 x0 x1 x2 x3 x4 x6 x7 x8 _)
    (whole arg6 harg6 x5 hz2 _) (whole arg10 harg10 x9 hz2 _) (whole arg11 harg11 x10 hz2 _) (whole arg12 harg12 x11 hz2 _)

/-- A weight array as a function of its two positions. -/
abbrev mat (W : FVec Ideal S768x768 .f32) (k x : Fin 768) : EReal := W (ix2 k x)

/-- A one-row array as a function of its column. -/
abbrev vec (b : FVec Ideal S1x768 .f32) (k : Fin 768) : EReal := b (ix2 0 k)

theorem body (y : S1x384x768.Idx) : out2_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 y
    = Spec.attn (fun (l : Fin 384) x => x0 (ix3 0 l x)) (mrow x1) (mat x2) (mat x3) (mat x4) (mat x5) (vec x6) (vec x7) (vec x8) (vec x9) (vec x10) (vec x11) (y 1) (y 2) := by
  unfold out2_A_12
  refine (congrFun (View.read_writes_eq_canon _ _ _ (cover2_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)) y).trans ?_
  unfold kernelRun2_A
  refine (congrFun (View.canon_unit_zero hz3 _ _) y).trans ?_
  rw [r8_eq]
  idx_vars y
  obtain rfl : y0 = 0 := Subsingleton.elim _ _
  refine (pay26_at _ _ _ _ _ _ y1 y2).trans ?_
  refine congrArg (fun r => Spec.norm r (vec x10) (vec x11) y2) (funext fun d => ?_)
  exact congrArg (Spec.lin _ _ _ _ _ + ·) (pay2_at x0 y1 d)

theorem idx : ∀ t : Fin cfg2.N, win2_0.index t = ![t.val, 0, 0] ∧ win2_1.index t = ![t.val, 0, 0] ∧ win2_2.index t = ![0, 0] ∧ win2_3.index t = ![0, 0] ∧ win2_4.index t = ![0, 0] ∧ win2_5.index t = ![0, 0] ∧ win2_6.index t = ![0, 0] ∧ win2_7.index t = ![0, 0] ∧ win2_8.index t = ![0, 0] ∧ win2_9.index t = ![0, 0] ∧ win2_10.index t = ![0, 0] ∧ win2_11.index t = ![0, 0] ∧ win2_12.index t = ![t.val, 0, 0] :=
  (by decide +kernel : ∀ t : Fin grid2.N, _)

abbrev in0 (c : Dev nD) : FVec Ideal S2x384x768 .f32 := V c (Pipeline.arrRef spec2 0)
abbrev in1 (c : Dev nD) : FVec Ideal S2x1x384 .f32 := V c (Pipeline.arrRef spec2 1)
abbrev in2 (c : Dev nD) : FVec Ideal S768x768 .f32 := V c (Pipeline.arrRef spec2 2)
abbrev in3 (c : Dev nD) : FVec Ideal S768x768 .f32 := V c (Pipeline.arrRef spec2 3)
abbrev in4 (c : Dev nD) : FVec Ideal S768x768 .f32 := V c (Pipeline.arrRef spec2 4)
abbrev in5 (c : Dev nD) : FVec Ideal S768x768 .f32 := V c (Pipeline.arrRef spec2 5)
abbrev in6 (c : Dev nD) : FVec Ideal S1x768 .f32 := V c (Pipeline.arrRef spec2 6)
abbrev in7 (c : Dev nD) : FVec Ideal S1x768 .f32 := V c (Pipeline.arrRef spec2 7)
abbrev in8 (c : Dev nD) : FVec Ideal S1x768 .f32 := V c (Pipeline.arrRef spec2 8)
abbrev in9 (c : Dev nD) : FVec Ideal S1x768 .f32 := V c (Pipeline.arrRef spec2 9)
abbrev in10 (c : Dev nD) : FVec Ideal S1x768 .f32 := V c (Pipeline.arrRef spec2 10)
abbrev in11 (c : Dev nD) : FVec Ideal S1x768 .f32 := V c (Pipeline.arrRef spec2 11)

theorem blk0 (c : Dev nD) (t : Fin cfg2.N) (l : Fin 384) (x : Fin 768) :
    iblk2 V c 0 t (ix3 0 l x : S1x384x768.Idx) = in0 V c (ix3 (⟨t.val, t.isLt⟩ : Fin 2) l x) := by
  blk_ext [iblk2, idx t]

theorem blk1 (c : Dev nD) (t : Fin cfg2.N) (x : Fin 384) :
    iblk2 V c 1 t (ix3 0 0 x : S1x1x384.Idx) = in1 V c (ix3 (⟨t.val, t.isLt⟩ : Fin 2) 0 x) := by
  blk_ext [iblk2, idx t]

theorem blk2 (c : Dev nD) (t : Fin cfg2.N) : (iblk2 V c 2 t : FVec Ideal S768x768 .f32) = in2 V c := by
  funext j
  idx_vars j
  blk_ext [iblk2, idx t]

theorem blk3 (c : Dev nD) (t : Fin cfg2.N) : (iblk2 V c 3 t : FVec Ideal S768x768 .f32) = in3 V c := by
  funext j
  idx_vars j
  blk_ext [iblk2, idx t]

theorem blk4 (c : Dev nD) (t : Fin cfg2.N) : (iblk2 V c 4 t : FVec Ideal S768x768 .f32) = in4 V c := by
  funext j
  idx_vars j
  blk_ext [iblk2, idx t]

theorem blk5 (c : Dev nD) (t : Fin cfg2.N) : (iblk2 V c 5 t : FVec Ideal S768x768 .f32) = in5 V c := by
  funext j
  idx_vars j
  blk_ext [iblk2, idx t]

theorem blk6 (c : Dev nD) (t : Fin cfg2.N) : (iblk2 V c 6 t : FVec Ideal S1x768 .f32) = in6 V c := by
  funext j
  idx_vars j
  blk_ext [iblk2, idx t]

theorem blk7 (c : Dev nD) (t : Fin cfg2.N) : (iblk2 V c 7 t : FVec Ideal S1x768 .f32) = in7 V c := by
  funext j
  idx_vars j
  blk_ext [iblk2, idx t]

theorem blk8 (c : Dev nD) (t : Fin cfg2.N) : (iblk2 V c 8 t : FVec Ideal S1x768 .f32) = in8 V c := by
  funext j
  idx_vars j
  blk_ext [iblk2, idx t]

theorem blk9 (c : Dev nD) (t : Fin cfg2.N) : (iblk2 V c 9 t : FVec Ideal S1x768 .f32) = in9 V c := by
  funext j
  idx_vars j
  blk_ext [iblk2, idx t]

theorem blk10 (c : Dev nD) (t : Fin cfg2.N) : (iblk2 V c 10 t : FVec Ideal S1x768 .f32) = in10 V c := by
  funext j
  idx_vars j
  blk_ext [iblk2, idx t]

theorem blk11 (c : Dev nD) (t : Fin cfg2.N) : (iblk2 V c 11 t : FVec Ideal S1x768 .f32) = in11 V c := by
  funext j
  idx_vars j
  blk_ext [iblk2, idx t]

/-- The mask row of a batch by entries. -/
def mask2 (m : FVec Ideal S2x1x384 .f32) (b : Fin 2) (x : Fin 384) : EReal := if x.val < 369 then m (ix3 b 0 x) else ⊥

theorem point (c : Dev nD) (t : Fin cfg2.N) (y : S1x384x768.Idx) (b : Fin 2) (l : Fin 384) (d : Fin 768)
    (hb : b.val = t.val) (hl : l.val = (y 1).val) (hd : d.val = (y 2).val) :
    outsAt2 V c t y = Spec.attn (fun (l : Fin 384) x => in0 V c (ix3 b l x)) (mask2 (in1 V c) b) (mat (in2 V c)) (mat (in3 V c)) (mat (in4 V c)) (mat (in5 V c)) (vec (in6 V c)) (vec (in7 V c)) (vec (in8 V c)) (vec (in9 V c)) (vec (in10 V c)) (vec (in11 V c)) l d := by
  obtain rfl : b = ⟨t.val, t.isLt⟩ := Fin.ext hb
  obtain rfl : l = (y 1 : Fin 384) := Fin.ext hl
  obtain rfl : d = (y 2 : Fin 768) := Fin.ext hd
  unfold outsAt2
  refine (body _ _ _ _ _ _ _ _ _ _ _ _ _ _ _ _ _ _ _ _ _ _ _ _ _ _ _ _ _ _ _ _ _ _ _ _ _ _ _ _ _ _ _ _ _ _ _ _ y).trans ?_
  rw [blk2, blk3, blk4, blk5, blk6, blk7, blk8, blk9, blk10, blk11]
  refine congrArg₂ (fun f m => Spec.attn f m (mat (in2 V c)) (mat (in3 V c)) (mat (in4 V c)) (mat (in5 V c)) (vec (in6 V c)) (vec (in7 V c)) (vec (in8 V c)) (vec (in9 V c)) (vec (in10 V c)) (vec (in11 V c)) (y 1 : Fin 384) (y 2 : Fin 768)) (funext fun l => funext fun x => blk0 V c t l x) (funext fun x => ?_)
  unfold mrow mask2
  rw [blk1]

theorem final (c : Dev nD) :
    (dat2 V c).arrAt 12 cfg2.N = fun j : S2x384x768.Idx => Spec.attn (fun (l : Fin 384) x => in0 V c (ix3 (j 0) l x)) (mask2 (in1 V c) (j 0)) (mat (in2 V c)) (mat (in3 V c)) (mat (in4 V c)) (mat (in5 V c)) (vec (in6 V c)) (vec (in7 V c)) (vec (in8 V c)) (vec (in9 V c)) (vec (in10 V c)) (vec (in11 V c)) (j 1) (j 2) := by
  refine (dat2 V c).arrAt_eq_of_covers 12 _ (by decide +kernel) fun t _ y => ?_
  blk_simp
  rw [after2_12]
  refine point V c t y _ _ _ ?_ ?_ ?_
  all_goals blk_simp [idx t]

end Cert.KernelIdeal.R2
-- ==== Proof.R3.lean ====
/- The two heads' kernel: its three result arrays, entry by entry. -/
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.R3

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx : ∀ t : Fin cfg3.N, win3_0.index t = ![t.val, 0, 0] ∧ win3_1.index t = ![0, 0] ∧ win3_2.index t = ![0, 0] ∧ win3_3.index t = ![0, 0] ∧ win3_4.index t = ![0, 0] ∧ win3_5.index t = ![0, 0] ∧ win3_6.index t = ![0, 0] ∧ win3_7.index t = ![0, 0] ∧ win3_8.index t = ![0, 0] ∧ win3_9.index t = ![t.val, 0, 0]
    ∧ win3_10.index t = ![t.val, 0, 0] ∧ win3_11.index t = ![t.val, 0, 0] :=
  (by decide +kernel : ∀ t : Fin grid3.N, _)

abbrev in0 (c : Dev nD) : FVec Ideal S2x384x768 .f32 := V c (Pipeline.arrRef spec3 0)
abbrev in1 (c : Dev nD) : FVec Ideal S128x768 .f32 := V c (Pipeline.arrRef spec3 1)
abbrev in2 (c : Dev nD) : FVec Ideal S1x128 .f32 := V c (Pipeline.arrRef spec3 2)
abbrev in3 (c : Dev nD) : FVec Ideal S768x768 .f32 := V c (Pipeline.arrRef spec3 3)
abbrev in4 (c : Dev nD) : FVec Ideal S1x768 .f32 := V c (Pipeline.arrRef spec3 4)
abbrev in5 (c : Dev nD) : FVec Ideal S768x768 .f32 := V c (Pipeline.arrRef spec3 5)
abbrev in6 (c : Dev nD) : FVec Ideal S1x768 .f32 := V c (Pipeline.arrRef spec3 6)
abbrev in7 (c : Dev nD) : FVec Ideal S768x1536 .f32 := V c (Pipeline.arrRef spec3 7)
abbrev in8 (c : Dev nD) : FVec Ideal S1x768 .f32 := V c (Pipeline.arrRef spec3 8)

/-- Entry (row, class) of the padded classifier. -/
def cls (x : Fin 768 → EReal) (W : FVec Ideal S128x768 .f32) (b : FVec Ideal S1x128 .f32) (n : Fin 128) : EReal :=
  (∑ k : Fin 768, x k * W (ix2 n k)) + b (ix2 0 n)

/-- Entry of the first half of the pair projection, bias and all. -/
def left (x : Fin 768 → EReal) (W : FVec Ideal S768x768 .f32) (b : FVec Ideal S1x768 .f32) (S : FVec Ideal S768x1536 .f32) (sb : FVec Ideal S1x768 .f32) (n : Fin 768) : EReal :=
  (∑ k : Fin 768, Ideal.tanh ((∑ m : Fin 768, x m * W (ix2 k m)) + b (ix2 0 k)) * S (ix2 n ⟨k.val, by omega⟩)) + sb (ix2 0 n)

/-- Entry of the second half of the pair projection. -/
def right (x : Fin 768 → EReal) (W : FVec Ideal S768x768 .f32) (b : FVec Ideal S1x768 .f32) (S : FVec Ideal S768x1536 .f32) (n : Fin 768) : EReal :=
  ∑ k : Fin 768, Ideal.tanh ((∑ m : Fin 768, x m * W (ix2 k m)) + b (ix2 0 k)) * S (ix2 n ⟨768 + k.val, by omega⟩)

variable (x0 : FVec Ideal S1x384x768 .f32) (x1 : FVec Ideal S128x768 .f32) (x2 : FVec Ideal S1x128 .f32) (x3 : FVec Ideal S768x768 .f32)
  (x4 : FVec Ideal S1x768 .f32) (x5 : FVec Ideal S768x768 .f32) (x6 : FVec Ideal S1x768 .f32) (x7 : FVec Ideal S768x1536 .f32) (x8 : FVec Ideal S1x768 .f32)

theorem hz2 : (![0, 0] : Fin 2 → ℕ) = fun _ => 0 := by funext a; fin_cases a <;> rfl
theorem hz3 : (![0, 0, 0] : Fin 3 → ℕ) = fun _ => 0 := by funext a; fin_cases a <;> rfl

/-- The first 768 columns of the weights. -/
abbrev wlo : FVec Ideal S768x768 .f32 := View.ld (Val := Elt Ideal) (e' := .f32) x7 r3_6

/-- The last 768 columns of the weights. -/
abbrev whi : FVec Ideal S768x768 .f32 := View.ld (Val := Elt Ideal) (e' := .f32) x7 r3_7

theorem lo (k n : Fin 768) : wlo x7 (ix2 n k) = x7 (ix2 n ⟨k.val, by omega⟩) := by
  refine congrArg x7 ?_
  funext a
  refine Fin.ext ?_
  fin_cases a
  · show 0 + 1 * n.val = n.val; omega
  · show 0 + 1 * k.val = k.val; omega

theorem hi (k n : Fin 768) : whi x7 (ix2 n k) = x7 (ix2 n ⟨768 + k.val, by omega⟩) := by
  refine congrArg x7 ?_
  funext a
  refine Fin.ext ?_
  fin_cases a
  · show 0 + 1 * n.val = n.val; omega
  · show 768 + 1 * k.val = 768 + k.val; omega

theorem pay6_var (w : FVec Ideal S768x768 .f32) (l : Fin 384) (d : Fin 768) : k3_pay1 (F := Ideal) (k3_pay6 x0 x3 x4 w x8) (ix3 0 l d)
    = (∑ k : Fin 768, Ideal.tanh ((∑ m : Fin 768, x0 (ix3 0 l m) * x3 (ix2 k m)) + x4 (ix2 0 k)) * w (ix2 d k)) + x8 (ix2 0 d) := by
  pointwise [k3_pay1, k3_pay6, k3_pay3]

theorem pay5_var (w : FVec Ideal S768x768 .f32) (l : Fin 384) (d : Fin 768) : k3_pay2 (F := Ideal) (k3_pay5 x0 x5 x6) w (ix3 0 l d)
    = ∑ k : Fin 768, Ideal.tanh ((∑ m : Fin 768, x0 (ix3 0 l m) * x5 (ix2 k m)) + x6 (ix2 0 k)) * w (ix2 d k) := by
  pointwise [k3_pay2, k3_pay5, k3_pay3]

theorem body9 (y : S1x384x128.Idx) : out3_9 (F := Ideal) x0 x1 x2 x3 x4 x5 x6 x7 x8 y = cls (fun k => x0 (ix3 0 (y 1) k)) x1 x2 (y 2) := by
  unfold out3_9
  rw [View.ld_unit_zero hz3, View.ld_unit_zero hz2, View.ld_unit_zero hz2]
  refine (congrFun (View.canon_unit_zero hz3 _ _) y).trans ?_
  idx_vars y
  obtain rfl : y0 = 0 := Subsingleton.elim _ _
  pointwise [k3_pay4, k3_pay3, cls]

theorem body10 (y : S1x384x768.Idx) : out3_10 (F := Ideal) x0 x1 x2 x3 x4 x5 x6 x7 x8 y = left (fun k => x0 (ix3 0 (y 1) k)) x3 x4 x7 x8 (y 2) := by
  unfold out3_10
  rw [View.ld_unit_zero hz3, View.ld_unit_zero hz2, View.ld_unit_zero hz2, View.ld_unit_zero hz2]
  refine (congrFun (View.canon_unit_zero hz3 _ _) y).trans ?_
  idx_vars y
  obtain rfl : y0 = 0 := Subsingleton.elim _ _
  exact (pay6_var x0 x3 x4 x8 (wlo x7) y1 y2).trans (congrArg (· + _) (Finset.sum_congr rfl fun k _ => congrArg (_ * ·) (lo x7 k y2)))

theorem body11 (y : S1x384x768.Idx) : out3_11 (F := Ideal) x0 x1 x2 x3 x4 x5 x6 x7 x8 y = right (fun k => x0 (ix3 0 (y 1) k)) x5 x6 x7 (y 2) := by
  unfold out3_11
  rw [View.ld_unit_zero hz3, View.ld_unit_zero hz2, View.ld_unit_zero hz2]
  refine (congrFun (View.canon_unit_zero hz3 _ _) y).trans ?_
  idx_vars y
  obtain rfl : y0 = 0 := Subsingleton.elim _ _
  exact (pay5_var x0 x5 x6 (whi x7) y1 y2).trans (Finset.sum_congr rfl fun k _ => congrArg (_ * ·) (hi x7 k y2))

theorem blk0 (c : Dev nD) (t : Fin cfg3.N) (l : Fin 384) (x : Fin 768) :
    iblk3 V c 0 t (ix3 0 l x : S1x384x768.Idx) = in0 V c (ix3 (⟨t.val, t.isLt⟩ : Fin 2) l x) := by
  blk_ext [iblk3, idx t]

theorem blk1 (c : Dev nD) (t : Fin cfg3.N) : (iblk3 V c 1 t : FVec Ideal S128x768 .f32) = in1 V c := by
  funext j
  idx_vars j
  blk_ext [iblk3, idx t]

theorem blk2 (c : Dev nD) (t : Fin cfg3.N) : (iblk3 V c 2 t : FVec Ideal S1x128 .f32) = in2 V c := by
  funext j
  idx_vars j
  blk_ext [iblk3, idx t]

theorem blk3 (c : Dev nD) (t : Fin cfg3.N) : (iblk3 V c 3 t : FVec Ideal S768x768 .f32) = in3 V c := by
  funext j
  idx_vars j
  blk_ext [iblk3, idx t]

theorem blk4 (c : Dev nD) (t : Fin cfg3.N) : (iblk3 V c 4 t : FVec Ideal S1x768 .f32) = in4 V c := by
  funext j
  idx_vars j
  blk_ext [iblk3, idx t]

theorem blk5 (c : Dev nD) (t : Fin cfg3.N) : (iblk3 V c 5 t : FVec Ideal S768x768 .f32) = in5 V c := by
  funext j
  idx_vars j
  blk_ext [iblk3, idx t]

theorem blk6 (c : Dev nD) (t : Fin cfg3.N) : (iblk3 V c 6 t : FVec Ideal S1x768 .f32) = in6 V c := by
  funext j
  idx_vars j
  blk_ext [iblk3, idx t]

theorem blk7 (c : Dev nD) (t : Fin cfg3.N) : (iblk3 V c 7 t : FVec Ideal S768x1536 .f32) = in7 V c := by
  funext j
  idx_vars j
  blk_ext [iblk3, idx t]

theorem blk8 (c : Dev nD) (t : Fin cfg3.N) : (iblk3 V c 8 t : FVec Ideal S1x768 .f32) = in8 V c := by
  funext j
  idx_vars j
  blk_ext [iblk3, idx t]

theorem point9 (c : Dev nD) (t : Fin cfg3.N) (y : S1x384x128.Idx) (b : Fin 2) (l : Fin 384) (d : Fin 128)
    (hb : b.val = t.val) (hl : l.val = (y 1).val) (hd : d.val = (y 2).val) :
    out3_9 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) y
      = cls (fun k => in0 V c (ix3 b l k)) (in1 V c) (in2 V c) d := by
  obtain rfl : b = ⟨t.val, t.isLt⟩ := Fin.ext hb
  obtain rfl : l = (y 1 : Fin 384) := Fin.ext hl
  obtain rfl : d = (y 2 : Fin 128) := Fin.ext hd
  rw [body9, blk1, blk2]
  exact congrArg (fun f => cls f (in1 V c) (in2 V c) (y 2 : Fin 128)) (funext fun k => blk0 V c t (y 1) k)

theorem final9 (c : Dev nD) :
    (dat3 V c).arrAt 9 cfg3.N = fun j : S2x384x128.Idx => cls (fun k => in0 V c (ix3 (j 0) (j 1) k)) (in1 V c) (in2 V c) (j 2) := by
  refine (dat3 V c).arrAt_eq_of_covers 9 _ (by decide +kernel) fun t _ y => ?_
  blk_simp
  rw [after3_9]
  refine point9 V c t y _ _ _ ?_ ?_ ?_
  all_goals blk_simp [idx t]

theorem point10 (c : Dev nD) (t : Fin cfg3.N) (y : S1x384x768.Idx) (b : Fin 2) (l : Fin 384) (d : Fin 768)
    (hb : b.val = t.val) (hl : l.val = (y 1).val) (hd : d.val = (y 2).val) :
    out3_10 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) y
      = left (fun k => in0 V c (ix3 b l k)) (in3 V c) (in4 V c) (in7 V c) (in8 V c) d := by
  obtain rfl : b = ⟨t.val, t.isLt⟩ := Fin.ext hb
  obtain rfl : l = (y 1 : Fin 384) := Fin.ext hl
  obtain rfl : d = (y 2 : Fin 768) := Fin.ext hd
  rw [body10, blk3, blk4, blk7, blk8]
  exact congrArg (fun f => left f (in3 V c) (in4 V c) (in7 V c) (in8 V c) (y 2 : Fin 768)) (funext fun k => blk0 V c t (y 1) k)

theorem final10 (c : Dev nD) :
    (dat3 V c).arrAt 10 cfg3.N = fun j : S2x384x768.Idx => left (fun k => in0 V c (ix3 (j 0) (j 1) k)) (in3 V c) (in4 V c) (in7 V c) (in8 V c) (j 2) := by
  refine (dat3 V c).arrAt_eq_of_covers 10 _ (by decide +kernel) fun t _ y => ?_
  blk_simp
  rw [after3_10]
  refine point10 V c t y _ _ _ ?_ ?_ ?_
  all_goals blk_simp [idx t]

theorem point11 (c : Dev nD) (t : Fin cfg3.N) (y : S1x384x768.Idx) (b : Fin 2) (l : Fin 384) (d : Fin 768)
    (hb : b.val = t.val) (hl : l.val = (y 1).val) (hd : d.val = (y 2).val) :
    out3_11 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) y
      = right (fun k => in0 V c (ix3 b l k)) (in5 V c) (in6 V c) (in7 V c) d := by
  obtain rfl : b = ⟨t.val, t.isLt⟩ := Fin.ext hb
  obtain rfl : l = (y 1 : Fin 384) := Fin.ext hl
  obtain rfl : d = (y 2 : Fin 768) := Fin.ext hd
  rw [body11, blk5, blk6, blk7]
  exact congrArg (fun f => right f (in5 V c) (in6 V c) (in7 V c) (y 2 : Fin 768)) (funext fun k => blk0 V c t (y 1) k)

theorem final11 (c : Dev nD) :
    (dat3 V c).arrAt 11 cfg3.N = fun j : S2x384x768.Idx => right (fun k => in0 V c (ix3 (j 0) (j 1) k)) (in5 V c) (in6 V c) (in7 V c) (j 2) := by
  refine (dat3 V c).arrAt_eq_of_covers 11 _ (by decide +kernel) fun t _ y => ?_
  blk_simp
  rw [after3_11]
  refine point11 V c t y _ _ _ ?_ ?_ ?_
  all_goals blk_simp [idx t]

end Cert.KernelIdeal.R3
-- ==== Proof.R4.lean ====
/- The pairwise selection kernel: its result array, entry by entry. -/
module

public import proofs.«01_k».proof.Proof.Gen.KernelIdeal.Frame
public import Idealize.ShloMosaic.Lib.Pipeline.ValueKit

@[expose] public section

set_option maxRecDepth 16384

noncomputable section

namespace Cert.KernelIdeal.R4

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx : ∀ t : Fin cfg4.N, win4_0.index t = ![t.val / 48, 0, 0] ∧ win4_1.index t = ![t.val / 48, t.val % 48, 0]
    ∧ win4_2.index t = ![0, 0] ∧ win4_3.index t = ![t.val / 48, t.val % 48, 0, 0] :=
  (by decide +kernel : ∀ t : Fin grid4.N, _)

abbrev inA (c : Dev nD) : FVec Ideal S2x384x768 .f32 := V c (Pipeline.arrRef spec4 0)
abbrev inB (c : Dev nD) : FVec Ideal S2x384x768 .f32 := V c (Pipeline.arrRef spec4 1)
abbrev inR (c : Dev nD) : FVec Ideal S12x768 .f32 := V c (Pipeline.arrRef spec4 2)

/-- Entry (batch, row, tag, column) of the result. -/
def sel (A B : FVec Ideal S2x384x768 .f32) (R : FVec Ideal S12x768 .f32) (b : Fin 2) (i : Fin 384) (r : Fin 12) (j : Fin 369) : EReal :=
  ∑ x : Fin 768, R (ix2 r x) * Ideal.tanh (A (ix3 b ⟨j.val, by omega⟩ x) + B (ix3 b i x))

/-- What the body leaves in its block, from its input blocks. -/
theorem body (A : FVec Ideal S1x384x768 .f32) (B : FVec Ideal S1x8x768 .f32) (R : FVec Ideal S12x768 .f32) (y : S1x8x12x369.Idx) :
    out4_3 (F := Ideal) A B R y
      = ∑ x : Fin 768, R (ix2 (y 2) x) * Ideal.tanh (A (ix3 0 ⟨(y 3).val, lt_trans (y 3).isLt (by decide)⟩ x) + B (ix3 0 (y 1) x)) := by
  unfold_out out4_3
  canon_tiles x h
  all_goals
    open_payloads
    pointwise
    refine Finset.sum_congr rfl fun k _ => ?_
    refine Ideal.mul_congr (congrArg R ?_) (congrArg Ideal.tanh (Ideal.add_congr (congrArg A ?_) (congrArg B ?_)))
    all_goals blk_ext

theorem lt48 (t : Fin cfg4.N) : t.val / 48 < 2 := by
  have : t.val < 96 := t.isLt
  omega

theorem lt384 (t : Fin cfg4.N) (i : Fin 8) : t.val % 48 * 8 + i.val < 384 := by
  omega

theorem blkA (c : Dev nD) (t : Fin cfg4.N) (j : Fin 384) (x : Fin 768) :
    iblk4 V c 0 t (ix3 0 j x : S1x384x768.Idx) = inA V c (ix3 ⟨t.val / 48, lt48 t⟩ j x) := by
  blk_ext [iblk4, idx t]

theorem blkB (c : Dev nD) (t : Fin cfg4.N) (j : Fin 8) (x : Fin 768) :
    iblk4 V c 1 t (ix3 0 j x : S1x8x768.Idx) = inB V c (ix3 ⟨t.val / 48, lt48 t⟩ ⟨t.val % 48 * 8 + j.val, lt384 t j⟩ x) := by
  blk_ext [iblk4, idx t]

theorem blkR (c : Dev nD) (t : Fin cfg4.N) (j : Fin 12) (x : Fin 768) :
    iblk4 V c 2 t (ix2 j x : S12x768.Idx) = inR V c (ix2 j x) := by
  blk_ext [iblk4, idx t]

theorem point (c : Dev nD) (t : Fin cfg4.N) (y : S1x8x12x369.Idx) (b : Fin 2) (i : Fin 384) (r : Fin 12) (j : Fin 369)
    (hb : b.val = t.val / 48) (hi : i.val = t.val % 48 * 8 + (y 1).val) (hr : r.val = (y 2).val) (hj : j.val = (y 3).val) :
    out4_3 (F := Ideal) (iblk4 V c 0 t) (iblk4 V c 1 t) (iblk4 V c 2 t) y = sel (inA V c) (inB V c) (inR V c) b i r j := by
  obtain rfl : b = ⟨t.val / 48, lt48 t⟩ := Fin.ext hb
  obtain rfl : i = ⟨t.val % 48 * 8 + (y 1).val, lt384 t (y 1)⟩ := Fin.ext hi
  obtain rfl : r = (y 2 : Fin 12) := Fin.ext hr
  obtain rfl : j = (y 3 : Fin 369) := Fin.ext hj
  rw [body]
  exact Finset.sum_congr rfl fun k _ => Ideal.mul_congr (blkR V c t (y 2) k)
    (congrArg Ideal.tanh (Ideal.add_congr (blkA V c t ⟨(y 3).val, _⟩ k) (blkB V c t (y 1) k)))

theorem final (c : Dev nD) :
    (dat4 V c).arrAt 3 cfg4.N = fun j : S2x384x12x369.Idx => sel (inA V c) (inB V c) (inR V c) (j 0) (j 1) (j 2) (j 3) := by
  refine (dat4 V c).arrAt_eq_of_covers 3 _ (by decide +kernel) fun t _ y => ?_
  blk_simp
  rw [after4_3]
  refine point V c t y _ _ _ _ ?_ ?_ ?_ ?_
  all_goals blk_simp [idx t]

end Cert.KernelIdeal.R4
-- ==== Proof.KVal.lean ====
/- The kernel's results, region after region, as the problem's mathematics of the arguments. -/
module

public import proofs.«01_k».proof.Proof.Gen.KernelIdeal.Frame
public import Idealize.ShloMosaic.Lib.Pipeline.ValueKit
public import proofs.«01_k».proof.Proof.Model
public import proofs.«01_k».proof.Proof.Host
public import proofs.«01_k».proof.Proof.R0
public import proofs.«01_k».proof.Proof.R1
public import proofs.«01_k».proof.Proof.R2
public import proofs.«01_k».proof.Proof.R3
public import proofs.«01_k».proof.Proof.R4

@[expose] public section

set_option maxRecDepth 16384

noncomputable section

namespace Cert.KernelIdeal.KV

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

abbrev g0 : FVec Ideal S2x64x768 .f32 := m ((c : Thread nD τ).loc main_arg0)
abbrev g1 : FVec Ideal S2x768 .f32 := m ((c : Thread nD τ).loc main_arg1)
abbrev g2 : FVec Ideal S2x369 .f32 := m ((c : Thread nD τ).loc main_arg2)
abbrev g3 : FVec Ideal S768x1536 .f32 := m ((c : Thread nD τ).loc main_arg3)
abbrev g4 : FVec Ideal S768 .f32 := m ((c : Thread nD τ).loc main_arg4)
abbrev g5 : FVec Ideal S3072x768 .f32 := m ((c : Thread nD τ).loc main_arg5)
abbrev g6 : FVec Ideal S3072x768 .f32 := m ((c : Thread nD τ).loc main_arg6)
abbrev g7 : FVec Ideal S3072 .f32 := m ((c : Thread nD τ).loc main_arg7)
abbrev g8 : FVec Ideal S3072 .f32 := m ((c : Thread nD τ).loc main_arg8)
abbrev g9 : FVec Ideal S768x768 .f32 := m ((c : Thread nD τ).loc main_arg9)
abbrev g10 : FVec Ideal S768 .f32 := m ((c : Thread nD τ).loc main_arg10)
abbrev g11 : FVec Ideal S768x768 .f32 := m ((c : Thread nD τ).loc main_arg11)
abbrev g12 : FVec Ideal S768 .f32 := m ((c : Thread nD τ).loc main_arg12)
abbrev g13 : FVec Ideal S768x768 .f32 := m ((c : Thread nD τ).loc main_arg13)
abbrev g14 : FVec Ideal S768 .f32 := m ((c : Thread nD τ).loc main_arg14)
abbrev g15 : FVec Ideal S768x768 .f32 := m ((c : Thread nD τ).loc main_arg15)
abbrev g16 : FVec Ideal S768 .f32 := m ((c : Thread nD τ).loc main_arg16)
abbrev g17 : FVec Ideal S768 .f32 := m ((c : Thread nD τ).loc main_arg17)
abbrev g18 : FVec Ideal S768 .f32 := m ((c : Thread nD τ).loc main_arg18)
abbrev g19 : FVec Ideal S2x768 .f32 := m ((c : Thread nD τ).loc main_arg19)
abbrev g20 : FVec Ideal S2 .f32 := m ((c : Thread nD τ).loc main_arg20)
abbrev g21 : FVec Ideal S12x768 .f32 := m ((c : Thread nD τ).loc main_arg21)
abbrev g22 : FVec Ideal S768x768 .f32 := m ((c : Thread nD τ).loc main_arg22)
abbrev g23 : FVec Ideal S768 .f32 := m ((c : Thread nD τ).loc main_arg23)
abbrev g24 : FVec Ideal S768x768 .f32 := m ((c : Thread nD τ).loc main_arg24)
abbrev g25 : FVec Ideal S768 .f32 := m ((c : Thread nD τ).loc main_arg25)
abbrev g26 : FVec Ideal S768x1536 .f32 := m ((c : Thread nD τ).loc main_arg26)
abbrev g27 : FVec Ideal S768 .f32 := m ((c : Thread nD τ).loc main_arg27)

/-- The arguments as the mathematics takes them. -/
def args : Spec.Args where
  seq := fun b i x => g0 m c (ix3 b i x)
  pool := fun b x => g1 m c (ix2 b x)
  mask := fun b x => g2 m c (ix2 b x)
  cW := fun d x => g3 m c (ix2 d x)
  cb := fun d => g4 m c (ix1 d)
  Wih := fun j x => g5 m c (ix2 j x)
  Whh := fun j x => g6 m c (ix2 j x)
  bih := fun j => g7 m c (ix1 j)
  bhh := fun j => g8 m c (ix1 j)
  Wq := fun k x => g9 m c (ix2 k x)
  bq := fun k => g10 m c (ix1 k)
  Wk := fun k x => g11 m c (ix2 k x)
  bk := fun k => g12 m c (ix1 k)
  Wv := fun k x => g13 m c (ix2 k x)
  bv := fun k => g14 m c (ix1 k)
  Wo := fun k x => g15 m c (ix2 k x)
  bo := fun k => g16 m c (ix1 k)
  lg := fun k => g17 m c (ix1 k)
  lb := fun k => g18 m c (ix1 k)
  clsW := fun t k => g19 m c (ix2 t k)
  clsb := fun t => g20 m c (ix1 t)
  rel := fun r x => g21 m c (ix2 r x)
  uW := fun k x => g22 m c (ix2 k x)
  ub := fun k => g23 m c (ix1 k)
  vW := fun k x => g24 m c (ix2 k x)
  vb := fun k => g25 m c (ix1 k)
  sW := fun n k => g26 m c (ix2 n k)
  sb := fun n => g27 m c (ix1 n)

/-- The product with a row of the 0/1 matrix picks out one row. -/
theorem pick (p f : Fin 384 → EReal) (k : Fin 384) (h : ∀ x, p x = if x.val = k.val then 1 else 0) : ∑ x, p x * f x = f k := by
  rw [Finset.sum_eq_single k]
  · rw [h k, if_pos rfl, one_mul]
  · intro x _ hx
    rw [h x, if_neg fun e => hx (Fin.ext e), zero_mul]
  · intro hk
    exact absurd (Finset.mem_univ k) hk

theorem perm_at (l k : Fin 384) (hl : l.val < 369) : R0.in1 (V1 m ρ) c (ix2 l k) = if k.val = Cert.Lit.colN l.val then 1 else 0 := by
  refine (H.r0_cst (W0 m ρ c) l k).trans ?_
  have hn : l.val * 384 + k.val < S384x384.numel := by
    have : S384x384.numel = 147456 := by decide
    omega
  have e : S384x384.rowMajor (ix2 l k) = ⟨l.val * 384 + k.val, hn⟩ := Fin.ext (Shape.rowMajor_val_two (ix2 l k))
  rw [e, Cert.Lit.perm_word l k hl (by omega)]
  by_cases h : k.val = Cert.Lit.colN l.val
  · rw [if_pos h, if_pos h, Ideal.ofBits_one_f32]
  · rw [if_neg h, if_neg h, Ideal.ofBits_zero_f32]

theorem gates_at (n : Fin 2) (l : Fin 384) (hl : l.val < 369) (j : Fin 3072) :
    R1.inG (V3 m ρ) c (ix4 n l 0 j) = Spec.gin (args m c) n l.val j := by
  have e : R1.inG (V3 m ρ) c = W2 m ρ c (Proc.devRef .tc (Pipeline.arrRef spec0 7)) := W3_of m ρ c main_v4 (by decide +kernel)
  rw [e, W2_arr, R0.final]
  show R0.gx _ _ _ _ _ _ _ n l j = _
  have c1 : ∀ x : Fin 768, R0.comb (fun i x => R0.in0 (V1 m ρ) c (ix3 n i x)) (fun k => R0.in1 (V1 m ρ) c (ix2 l k)) (fun x => R0.in2 (V1 m ρ) c (ix3 n 0 x)) (R0.in3 (V1 m ρ) c) (R0.in4 (V1 m ρ) c) x
      = Spec.combine (args m c) n l.val x := fun x => by
    unfold R0.comb Spec.combine
    have hc := Cert.Lit.colN_lt l.val hl
    refine congrArg₂ (· + ·) (congrArg₂ (· + ·) (Finset.sum_congr rfl fun y _ => ?_) (Finset.sum_congr rfl fun y _ => ?_)) ?_
    · refine congrArg₂ (· * ·) ?_ (congrFun (W1_args m ρ c main_arg3 (by decide +kernel)) _)
      rw [pick _ _ ⟨Cert.Lit.colN l.val, hc.1⟩ (perm_at m ρ c l · hl)]
      unfold R0.stk Spec.span
      show Spec.slide _ _ (Cert.Lit.colN l.val / 64) (Cert.Lit.colN l.val % 64) = _
      rw [show Cert.Lit.colN l.val / 64 = Cert.Lit.spanVN l.val by unfold Cert.Lit.colN; omega, show Cert.Lit.colN l.val % 64 = Cert.Lit.spanSN l.val by unfold Cert.Lit.colN; omega]
      refine congrArg (fun s => Spec.slide _ s _ _) (funext fun i => congrFun (W1_args m ρ c main_arg0 (by decide +kernel)) _)
    · exact congrArg₂ (· * ·) (H.r0_v2 (W0 m ρ c) n y) (congrFun (W1_args m ρ c main_arg3 (by decide +kernel)) _)
    · exact H.r0_v3 (W0 m ρ c) x
  unfold R0.gx R0.gates Spec.gin
  refine congrArg₂ (· + ·) (Finset.sum_congr rfl fun y _ => congrArg₂ (· * ·) (congrArg Ideal.tanh (c1 y)) (congrFun (W1_args m ρ c main_arg5 (by decide +kernel)) _)) (H.r0_v1 (W0 m ρ c) j)

theorem hid_at (n : Fin 2) (l : Fin 369) (d : Fin 768) : R2.in0 (V7 m ρ) c (ix3 n (Spec.up l) d) = Spec.hid (args m c) n l.val d := by
  have e : R2.in0 (V7 m ρ) c = W5 m ρ c (Proc.devRef .tc main_v7) := (W7_of m ρ c main_v7 (by decide +kernel)).trans (W6_of m ρ c main_v7 (by decide +kernel))
  rw [e]
  refine (H.r2_v7 (W4 m ρ c) n (Spec.up l) d).trans ?_
  refine (congrFun ((W4_arr m ρ c 2).trans (R1.final (V3 m ρ) c)) _).trans ?_
  show R1.ys _ _ n (Spec.up l) d = _
  unfold R1.ys Spec.hid
  have hW : (fun k j => R1.inW (V3 m ρ) c (ix2 k j)) = fun k j => (args m c).Whh j k := funext fun k => funext fun j =>
    (H.r1_v5 (W2 m ρ c) k j).trans (congrFun (W2_args m ρ c main_arg6 (by decide +kernel)) _)
  rw [hW]
  refine congrArg (fun s : (Fin 768 → EReal) × (Fin 768 → EReal) => s.1 d) (Spec.lstm_congr (N := 369) (fun k hk => ?_) _ (by show l.val + 1 ≤ 369; omega))
  rw [Spec.rowN_of_lt _ (show k < 384 by omega)]
  funext j
  exact gates_at m ρ c n ⟨k, by omega⟩ hk j

theorem mask_at (n : Fin 2) (x : Fin 384) (x' : Fin 369) (h : x.val = x'.val) : R2.in1 (V7 m ρ) c (ix3 n 0 x) = Spec.bias (args m c) n x' := by
  refine (H.r22_v13 (W6 m ρ c) n x).trans ?_
  unfold Spec.bias
  refine congrArg (fun z : EReal => (Ideal.ofBits .f32 0x3F800000#32 - z) * Ideal.ofBits .f32 0xC61C4000#32) ?_
  exact (H.r21_v8 (W5 m ρ c) n x x' h).trans (congrFun (W5_args m ρ c main_arg2 (by decide +kernel)) _)

theorem w2_2 : R2.mat (R2.in2 (V7 m ρ) c) = (args m c).Wq :=
  funext fun k => funext fun x => congrFun (W7_args m ρ c main_arg9 (by decide +kernel)) _
theorem w2_3 : R2.mat (R2.in3 (V7 m ρ) c) = (args m c).Wk :=
  funext fun k => funext fun x => congrFun (W7_args m ρ c main_arg11 (by decide +kernel)) _
theorem w2_4 : R2.mat (R2.in4 (V7 m ρ) c) = (args m c).Wv :=
  funext fun k => funext fun x => congrFun (W7_args m ρ c main_arg13 (by decide +kernel)) _
theorem w2_5 : R2.mat (R2.in5 (V7 m ρ) c) = (args m c).Wo :=
  funext fun k => funext fun x => congrFun (W7_args m ρ c main_arg15 (by decide +kernel)) _
theorem w2_6 : R2.vec (R2.in6 (V7 m ρ) c) = (args m c).bq :=
  funext fun k => (H.r22_v14 (W6 m ρ c) k).trans (congrFun (W6_args m ρ c main_arg10 (by decide +kernel)) _)
theorem w2_7 : R2.vec (R2.in7 (V7 m ρ) c) = (args m c).bk :=
  funext fun k => (H.r22_v15 (W6 m ρ c) k).trans (congrFun (W6_args m ρ c main_arg12 (by decide +kernel)) _)
theorem w2_8 : R2.vec (R2.in8 (V7 m ρ) c) = (args m c).bv :=
  funext fun k => (H.r22_v16 (W6 m ρ c) k).trans (congrFun (W6_args m ρ c main_arg14 (by decide +kernel)) _)
theorem w2_9 : R2.vec (R2.in9 (V7 m ρ) c) = (args m c).bo :=
  funext fun k => (H.r22_v17 (W6 m ρ c) k).trans (congrFun (W6_args m ρ c main_arg16 (by decide +kernel)) _)
theorem w2_10 : R2.vec (R2.in10 (V7 m ρ) c) = (args m c).lg :=
  funext fun k => (H.r22_v18 (W6 m ρ c) k).trans (congrFun (W6_args m ρ c main_arg17 (by decide +kernel)) _)
theorem w2_11 : R2.vec (R2.in11 (V7 m ρ) c) = (args m c).lb :=
  funext fun k => (H.r22_v19 (W6 m ρ c) k).trans (congrFun (W6_args m ρ c main_arg18 (by decide +kernel)) _)

theorem att_at (hf : Spec.Finite (args m c)) (n : Fin 2) (l : Fin 369) (d : Fin 768) : R3.in0 (V9 m ρ) c (ix3 n (Spec.up l) d) = Spec.att (args m c) n l d := by
  have e : R3.in0 (V9 m ρ) c = W8 m ρ c (Proc.devRef .tc (Pipeline.arrRef spec2 12)) := W9_of m ρ c main_v20 (by decide +kernel)
  rw [e, W8_arr, R2.final]
  show Spec.attn _ (R2.mask2 (R2.in1 (V7 m ρ) c) n) (R2.mat _) (R2.mat _) (R2.mat _) (R2.mat _) (R2.vec _) (R2.vec _) (R2.vec _) (R2.vec _) (R2.vec _) (R2.vec _) (Spec.up l) d = _
  rw [w2_2, w2_3, w2_4, w2_5, w2_6, w2_7, w2_8, w2_9, w2_10, w2_11]
  refine Spec.attn_cut (args m c) n hf _ _ (fun x d => hid_at m ρ c n x d) (fun x => ?_) (fun x hx => ?_) l d
  · unfold R2.mask2
    rw [if_pos (show (Spec.up x).val < 369 from x.isLt)]
    exact mask_at m ρ c n _ x rfl
  · unfold R2.mask2
    rw [if_neg (by omega)]

theorem cls_at (hf : Spec.Finite (args m c)) (n : Fin 2) (l : Fin 369) (t : Fin 2) :
    W12 m ρ c (Proc.devRef .tc main_v35) (ix3 n l t) = Spec.classify (args m c) n l t := by
  refine (H.r5_v35 (W11 m ρ c) n l t).trans ?_
  have e : W11 m ρ c (Proc.devRef .tc main_v32_0) = W10 m ρ c (Proc.devRef .tc (Pipeline.arrRef spec3 9)) := W11_of m ρ c main_v32_0 (by decide +kernel)
  rw [e, W10_arr, R3.final9]
  show R3.cls _ _ _ ⟨t.val, by omega⟩ = _
  unfold R3.cls Spec.classify
  refine congrArg₂ (· + ·) (Finset.sum_congr rfl fun k _ => congrArg₂ (· * ·) (att_at m ρ c hf n l k) ?_) ?_
  · exact (H.r3_v23 (W8 m ρ c) _ t rfl k).trans (congrFun (W8_args m ρ c main_arg19 (by decide +kernel)) _)
  · exact (H.r3_v28 (W8 m ρ c) _ t rfl).trans (congrFun (W8_args m ρ c main_arg20 (by decide +kernel)) _)

theorem left_at (hf : Spec.Finite (args m c)) (n : Fin 2) (l : Fin 369) (d : Fin 768) :
    R4.inA (V10 m ρ) c (ix3 n (Spec.up l) d) = Spec.left (args m c) n l d := by
  refine (congrFun ((W10_arr m ρ c 10).trans (R3.final10 (V9 m ρ) c)) _).trans ?_
  show R3.left _ _ _ _ _ d = _
  unfold R3.left Spec.left
  refine congrArg₂ (· + ·) (Finset.sum_congr rfl fun k _ => congrArg₂ (· * ·) (congrArg Ideal.tanh (congrArg₂ (· + ·) (Finset.sum_congr rfl fun x _ => congrArg₂ (· * ·) (att_at m ρ c hf n l x) ?_) ?_)) ?_) ?_
  · exact congrFun (W9_args m ρ c main_arg22 (by decide +kernel)) _
  · exact (H.r3_v29 (W8 m ρ c) k).trans (congrFun (W8_args m ρ c main_arg23 (by decide +kernel)) _)
  · exact congrFun (W9_args m ρ c main_arg26 (by decide +kernel)) _
  · exact (H.r3_v31 (W8 m ρ c) d).trans (congrFun (W8_args m ρ c main_arg27 (by decide +kernel)) _)

theorem right_at (hf : Spec.Finite (args m c)) (n : Fin 2) (l : Fin 369) (d : Fin 768) :
    R4.inB (V10 m ρ) c (ix3 n (Spec.up l) d) = Spec.right (args m c) n l d := by
  refine (congrFun ((W10_arr m ρ c 11).trans (R3.final11 (V9 m ρ) c)) _).trans ?_
  show R3.right _ _ _ _ d = _
  unfold R3.right Spec.right
  refine Finset.sum_congr rfl fun k _ => congrArg₂ (· * ·) (congrArg Ideal.tanh (congrArg₂ (· + ·) (Finset.sum_congr rfl fun x _ => congrArg₂ (· * ·) (att_at m ρ c hf n l x) ?_) ?_)) ?_
  · exact congrFun (W9_args m ρ c main_arg24 (by decide +kernel)) _
  · exact (H.r3_v30 (W8 m ρ c) k).trans (congrFun (W8_args m ρ c main_arg25 (by decide +kernel)) _)
  · exact congrFun (W9_args m ρ c main_arg26 (by decide +kernel)) _

theorem sel_at (hf : Spec.Finite (args m c)) (n : Fin 2) (i : Fin 369) (r : Fin 12) (j : Fin 369) :
    W12 m ρ c (Proc.devRef .tc main_v34) (ix4 n i r j) = Spec.select (args m c) n i r j := by
  refine (H.r5_v34 (W11 m ρ c) n i r j).trans ?_
  refine (congrFun ((W11_arr m ρ c 3).trans (R4.final (V10 m ρ) c)) _).trans ?_
  show R4.sel _ _ _ n (Spec.up i) r j = _
  unfold R4.sel Spec.select
  refine Finset.sum_congr rfl fun x _ => congrArg₂ (· * ·) (congrFun (W10_args m ρ c main_arg21 (by decide +kernel)) _) (congrArg Ideal.tanh ?_)
  exact congrArg₂ (· + ·) (left_at m ρ c hf n j x) (right_at m ρ c hf n i x)

end Cert.KernelIdeal.KV

end
-- ==== Proof.PreRead.lean ====
/- The precondition read: every entry it speaks of is real. -/
module

public import proofs.«01_k».proof.Defs
public import proofs.«01_k».proof.Proof.Gen.Pre_finite_scores
public import Idealize.ShloMosaic.Lib.Pipeline.ValueKit
public import proofs.«01_k».proof.Proof.KVal

@[expose] public section

set_option maxRecDepth 16384

noncomputable section

namespace Cert.Pre_finite_scores.PR

open Idealize.ShloMosaic Cert.Pre_finite_scores Cert.Pre_finite_scores.Gen

theorem both (a b : BitVec 1) (h : IntOp.andi a b = 1#1) : a = 1#1 ∧ b = 1#1 := by
  revert h
  revert a b
  decide

theorem real_of (x : EReal) (h : BitVec.ofBool (decide (max x (-x) < Ideal.ofBits .f32 0x7F800000#32)) = 1#1) : Cert.Spec.Re x := by
  have ht : Ideal.ofBits .f32 0x7F800000#32 = ⊤ := by
    simp [Ideal.ofBits, Ideal.ieee]
  rw [ht] at h
  have hlt : max x (-x) < ⊤ := by
    by_contra hn
    rw [decide_eq_false hn] at h
    exact absurd h (by decide)
  induction x using EReal.rec with
  | bot => exact absurd hlt (by simp)
  | top => exact absurd hlt (by simp)
  | coe r => exact ⟨r, rfl⟩

theorem pad_at (x2 : FVec Ideal S2x369 .f32) (n : Fin 2) (x : Fin 369) :
    fn_pad x2 (constantI S_ 32 0#32) (ix2 ⟨n.val, by omega⟩ ⟨x.val, by omega⟩) = x2 (ix2 n x) := by
  pointwise [fn_pad]

theorem reads (x0 : FVec Ideal S2x64x768 .f32) (x1 : FVec Ideal S2x768 .f32) (x2 : FVec Ideal S2x369 .f32) (x3 : FVec Ideal S768x1536 .f32) (x4 : FVec Ideal S768 .f32) (x5 : FVec Ideal S3072x768 .f32) (x6 : FVec Ideal S3072x768 .f32) (x7 : FVec Ideal S3072 .f32) (x8 : FVec Ideal S3072 .f32) (x9 : FVec Ideal S768x768 .f32) (x10 : FVec Ideal S768 .f32) (x11 : FVec Ideal S768x768 .f32) (x12 : FVec Ideal S768 .f32) (x13 : FVec Ideal S768x768 .f32) (x14 : FVec Ideal S768 .f32) (x15 : FVec Ideal S768x768 .f32) (x16 : FVec Ideal S768 .f32) (x17 : FVec Ideal S768 .f32) (x18 : FVec Ideal S768 .f32) (x19 : FVec Ideal S2x768 .f32) (x20 : FVec Ideal S2 .f32) (x21 : FVec Ideal S12x768 .f32) (x22 : FVec Ideal S768x768 .f32) (x23 : FVec Ideal S768 .f32) (x24 : FVec Ideal S768x768 .f32) (x25 : FVec Ideal S768 .f32) (x26 : FVec Ideal S768x1536 .f32) (x27 : FVec Ideal S768 .f32) (k x : Fin 768)
    (h : fn x0 x1 x2 x3 x4 x5 x6 x7 x8 x9 x10 x11 x12 x13 x14 x15 x16 x17 x18 x19 x20 x21 x22 x23 x24 x25 x26 x27 (ix2 k x) = 1#1) :
    Cert.Spec.Re (fn_pad x2 (constantI S_ 32 0#32) (ix2 k x)) ∧ Cert.Spec.Re (x9 (ix2 k x)) ∧ Cert.Spec.Re (x11 (ix2 k x)) ∧ Cert.Spec.Re (x10 (ix1 k)) ∧ Cert.Spec.Re (x12 (ix1 k)) := by
  have e : fn x0 x1 x2 x3 x4 x5 x6 x7 x8 x9 x10 x11 x12 x13 x14 x15 x16 x17 x18 x19 x20 x21 x22 x23 x24 x25 x26 x27 (ix2 k x) = IntOp.andi (IntOp.andi (IntOp.andi (IntOp.andi
      (BitVec.ofBool (decide (max (fn_pad x2 (constantI S_ 32 0#32) (ix2 k x)) (-(fn_pad x2 (constantI S_ 32 0#32) (ix2 k x))) < Ideal.ofBits .f32 0x7F800000#32)))
      (BitVec.ofBool (decide (max (x9 (ix2 k x)) (-(x9 (ix2 k x))) < Ideal.ofBits .f32 0x7F800000#32))))
      (BitVec.ofBool (decide (max (x11 (ix2 k x)) (-(x11 (ix2 k x))) < Ideal.ofBits .f32 0x7F800000#32))))
      (BitVec.ofBool (decide (max (x10 (ix1 k)) (-(x10 (ix1 k))) < Ideal.ofBits .f32 0x7F800000#32))))
      (BitVec.ofBool (decide (max (x12 (ix1 k)) (-(x12 (ix1 k))) < Ideal.ofBits .f32 0x7F800000#32))) := by
    pointwise [fn, fn_part1]
    rfl
  rw [e] at h
  obtain ⟨h1, h12⟩ := both _ _ h
  obtain ⟨h2, h10⟩ := both _ _ h1
  obtain ⟨h3, h11⟩ := both _ _ h2
  obtain ⟨hm, h9⟩ := both _ _ h3
  exact ⟨real_of _ hm, real_of _ h9, real_of _ h11, real_of _ h10, real_of _ h12⟩

open Cert.KernelIdeal in
/-- Under the precondition the arguments the scores depend on are real. -/
theorem finite (m : (ℓ : Loc Cert.KernelIdeal.nD Cert.KernelIdeal.τ Cert.KernelIdeal.sig) → Buf (Elt Ideal) ℓ) (h : Cert.Pre_KernelIdeal_finite_scores m) (c : Dev Cert.KernelIdeal.nD) :
    Cert.Spec.Finite (Cert.KernelIdeal.KV.args m c) := by
  have r := fun k x => reads _ _ _ _ _ _ _ _ _ _ _ _ _ _ _ _ _ _ _ _ _ _ _ _ _ _ _ _ k x (congrFun (h c) (ix2 k x))
  exact {
    mask := fun n x => (congrArg Cert.Spec.Re (pad_at _ n x)).mp (r ⟨n.val, by omega⟩ ⟨x.val, by omega⟩).1
    Wq := fun k x => (r k x).2.1
    Wk := fun k x => (r k x).2.2.1
    bq := fun k => (r k 0).2.2.2.1
    bk := fun k => (r k 0).2.2.2.2 }

end Cert.Pre_finite_scores.PR

end
-- ==== Proof.RefRunA.lean ====
/- The reference's run stated over the state of one trip of its loop; the text of the generated module of that name, with the
   step of the third carried buffer closed by `exact`. -/
module

public import proofs.«01_k».proof.Proof.Gen.ReferenceIdeal.Run
public import proofs.«01_k».proof.Proof.Gen.ReferenceIdeal.Step

@[expose] public section

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v52_6) = s.main_v52_6
  f_7 : V0 (Proc.devRef .tc main_v52_7) = s.main_v52_7
  f_8 : V0 (Proc.devRef .tc main_v52_8) = s.main_v52_8
  f_0 : V0 (Proc.devRef .tc main_v52_0) = s.main_v52_0
  f_1 : V0 (Proc.devRef .tc main_v52_1) = s.main_v52_1
  f_2 : V0 (Proc.devRef .tc main_v52_2) = s.main_v52_2
  f_3 : V0 (Proc.devRef .tc main_v52_3) = s.main_v52_3
  f_4 : V0 (Proc.devRef .tc main_v52_4) = s.main_v52_4
  n_5 : V0 (Proc.devRef .tc main_v52_5) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x2x768 (V0 (Proc.devRef .tc main_v52_0)) (fun k => (((![V0 (Proc.devRef .tc main_v52_5), constantI S_ 32 0#32, constantI S_ 32 0#32] : Fin 3 → (⟨S_, .i32⟩ : BufTy).Contents (Elt F))) k (Shape.Idx.first h_S_)).toInt) sliceFits_S369x2x768_S1x2x768 : (Proc.devRef .tc main_while0b_call0_v0 : DevRef τ sig).ty.Contents (Elt F)) = Cert.ReferenceIdeal.Step.b2 j s := by
  unfold Cert.ReferenceIdeal.Step.b2
  rw [← al_0 h, ← al_1 h, h.f_0, h.n_5]
  try rfl
set_option maxRecDepth 8192 in
theorem al_3 (h : Holds V0 s j) : (shapeCast S2x768 (Host.dynamicSlice S1x2x768 (V0 (Proc.devRef .tc main_v52_0)) (fun k => (((![V0 (Proc.devRef .tc main_v52_5), constantI S_ 32 0#32, constantI S_ 32 0#32] : Fin 3 → (⟨S_, .i32⟩ : BufTy).Contents (Elt F))) k (Shape.Idx.first h_S_)).toInt) sliceFits_S369x2x768_S1x2x768) shapeCasts_S1x2x768_S2x768 : (Proc.devRef .tc main_while0b_v160 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (transpose S768x3072 [1, 0] (V0 (Proc.devRef .tc main_v52_1)) transposes_S3072x768_S768x3072_1_0 : (Proc.devRef .tc main_while0b_v161 : DevRef τ sig).ty.Contents (Elt F)) = Cert.ReferenceIdeal.Step.b4 j s := by
  unfold Cert.ReferenceIdeal.Step.b4
  rw [h.f_1]
  try rfl
set_option maxRecDepth 8192 in
theorem al_5 (h : Holds V0 s j) : (Host.dotGeneral dot_S2x768_S768x3072_S2x3072_1_0_0_1_n_n none (shapeCast S2x768 (Host.dynamicSlice S1x2x768 (V0 (Proc.devRef .tc main_v52_0)) (fun k => (((![V0 (Proc.devRef .tc main_v52_5), constantI S_ 32 0#32, constantI S_ 32 0#32] : Fin 3 → (⟨S_, .i32⟩ : BufTy).Contents (Elt F))) k (Shape.Idx.first h_S_)).toInt) sliceFits_S369x2x768_S1x2x768) shapeCasts_S1x2x768_S2x768) (transpose S768x3072 [1, 0] (V0 (Proc.devRef .tc main_v52_1)) transposes_S3072x768_S768x3072_1_0) : (Proc.devRef .tc main_while0b_v162 : DevRef τ sig).ty.Contents (Elt F)) = Cert.ReferenceIdeal.Step.b5 j s := by
  unfold Cert.ReferenceIdeal.Step.b5
  rw [← al_3 h, ← al_4 h]
  try rfl
set_option maxRecDepth 8192 in
theorem al_6 (h : Holds V0 s j) : (broadcastInDim S1x3072 ![1] bcast_S3072_S1x3072_1 (V0 (Proc.devRef .tc main_v52_2)) : (Proc.devRef .tc main_while0b_v163 : DevRef τ sig).ty.Contents (Elt F)) = Cert.ReferenceIdeal.Step.b6 j s := by
  unfold Cert.ReferenceIdeal.Step.b6
  rw [h.f_2]
  try rfl
set_option maxRecDepth 8192 in
theorem al_7 (h : Holds V0 s j) : (broadcastInDim S2x3072 ![0, 1] bcast_S1x3072_S2x3072_0_1 (broadcastInDim S1x3072 ![1] bcast_S3072_S1x3072_1 (V0 (Proc.devRef .tc main_v52_2))) : (Proc.devRef .tc main_while0b_v164 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (addf (Host.dotGeneral dot_S2x768_S768x3072_S2x3072_1_0_0_1_n_n none (shapeCast S2x768 (Host.dynamicSlice S1x2x768 (V0 (Proc.devRef .tc main_v52_0)) (fun k => (((![V0 (Proc.devRef .tc main_v52_5), constantI S_ 32 0#32, constantI S_ 32 0#32] : Fin 3 → (⟨S_, .i32⟩ : BufTy).Contents (Elt F))) k (Shape.Idx.first h_S_)).toInt) sliceFits_S369x2x768_S1x2x768) shapeCasts_S1x2x768_S2x768) (transpose S768x3072 [1, 0] (V0 (Proc.devRef .tc main_v52_1)) transposes_S3072x768_S768x3072_1_0)) (broadcastInDim S2x3072 ![0, 1] bcast_S1x3072_S2x3072_0_1 (broadcastInDim S1x3072 ![1] bcast_S3072_S1x3072_1 (V0 (Proc.devRef .tc main_v52_2)))) : (Proc.devRef .tc main_while0b_v165 : DevRef τ sig).ty.Contents (Elt F)) = Cert.ReferenceIdeal.Step.b8 j s := by
  unfold Cert.ReferenceIdeal.Step.b8
  rw [← al_5 h, ← al_7 h]
  try rfl
set_option maxRecDepth 8192 in
theorem al_9 (h : Holds V0 s j) : (transpose S768x3072 [1, 0] (V0 (Proc.devRef .tc main_v52_3)) transposes_S3072x768_S768x3072_1_0 : (Proc.devRef .tc main_while0b_v166 : DevRef τ sig).ty.Contents (Elt F)) = Cert.ReferenceIdeal.Step.b9 j s := by
  unfold Cert.ReferenceIdeal.Step.b9
  rw [h.f_3]
  try rfl
set_option maxRecDepth 8192 in
theorem al_10 (h : Holds V0 s j) : (Host.dotGeneral dot_S2x768_S768x3072_S2x3072_1_0_0_1_n_n none (V0 (Proc.devRef .tc main_v52_6)) (transpose S768x3072 [1, 0] (V0 (Proc.devRef .tc main_v52_3)) transposes_S3072x768_S768x3072_1_0) : (Proc.devRef .tc main_while0b_v167 : DevRef τ sig).ty.Contents (Elt F)) = Cert.ReferenceIdeal.Step.b10 j s := by
  unfold Cert.ReferenceIdeal.Step.b10
  rw [← al_9 h, h.f_6]
  try rfl
set_option maxRecDepth 8192 in
theorem al_11 (h : Holds V0 s j) : (addf (addf (Host.dotGeneral dot_S2x768_S768x3072_S2x3072_1_0_0_1_n_n none (shapeCast S2x768 (Host.dynamicSlice S1x2x768 (V0 (Proc.devRef .tc main_v52_0)) (fun k => (((![V0 (Proc.devRef .tc main_v52_5), constantI S_ 32 0#32, constantI S_ 32 0#32] : Fin 3 → (⟨S_, .i32⟩ : BufTy).Contents (Elt F))) k (Shape.Idx.first h_S_)).toInt) sliceFits_S369x2x768_S1x2x768) shapeCasts_S1x2x768_S2x768) (transpose S768x3072 [1, 0] (V0 (Proc.devRef .tc main_v52_1)) transposes_S3072x768_S768x3072_1_0)) (broadcastInDim S2x3072 ![0, 1] bcast_S1x3072_S2x3072_0_1 (broadcastInDim S1x3072 ![1] bcast_S3072_S1x3072_1 (V0 (Proc.devRef .tc main_v52_2))))) (Host.dotGeneral dot_S2x768_S768x3072_S2x3072_1_0_0_1_n_n none (V0 (Proc.devRef .tc main_v52_6)) (transpose S768x3072 [1, 0] (V0 (Proc.devRef .tc main_v52_3)) transposes_S3072x768_S768x3072_1_0)) : (Proc.devRef .tc main_while0b_v168 : DevRef τ sig).ty.Contents (Elt F)) = Cert.ReferenceIdeal.Step.b11 j s := by
  unfold Cert.ReferenceIdeal.Step.b11
  rw [← al_8 h, ← al_10 h]
  try rfl
set_option maxRecDepth 8192 in
theorem al_12 (h : Holds V0 s j) : (broadcastInDim S1x3072 ![1] bcast_S3072_S1x3072_1 (V0 (Proc.devRef .tc main_v52_4)) : (Proc.devRef .tc main_while0b_v169 : DevRef τ sig).ty.Contents (Elt F)) = Cert.ReferenceIdeal.Step.b12 j s := by
  unfold Cert.ReferenceIdeal.Step.b12
  rw [h.f_4]
  try rfl
set_option maxRecDepth 8192 in
theorem al_13 (h : Holds V0 s j) : (broadcastInDim S2x3072 ![0, 1] bcast_S1x3072_S2x3072_0_1 (broadcastInDim S1x3072 ![1] bcast_S3072_S1x3072_1 (V0 (Proc.devRef .tc main_v52_4))) : (Proc.devRef .tc main_while0b_v170 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (res_main_while0b_v171 V0 : (Proc.devRef .tc main_while0b_v171 : DevRef τ sig).ty.Contents (Elt F)) = Cert.ReferenceIdeal.Step.b14 j s := by
  unfold res_main_while0b_v171 Cert.ReferenceIdeal.Step.b14
  rw [← al_11 h, ← al_13 h]
  try rfl
set_option maxRecDepth 8192 in
theorem al_15 (h : Holds V0 s j) : (extractStridedSlice S2x768 ![0, 0] (res_main_while0b_v171 V0) slices_S2x3072_S2x768_0_0 : (Proc.devRef .tc main_while0b_v172 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (extractStridedSlice S2x768 ![0, 768] (res_main_while0b_v171 V0) slices_S2x3072_S2x768_0_768 : (Proc.devRef .tc main_while0b_v173 : DevRef τ sig).ty.Contents (Elt F)) = Cert.ReferenceIdeal.Step.b16 j s := by
  unfold Cert.ReferenceIdeal.Step.b16
  rw [← al_14 h]
  try rfl
set_option maxRecDepth 8192 in
theorem al_17 (h : Holds V0 s j) : (extractStridedSlice S2x768 ![0, 1536] (res_main_while0b_v171 V0) slices_S2x3072_S2x768_0_1536 : (Proc.devRef .tc main_while0b_v174 : DevRef τ sig).ty.Contents (Elt F)) = Cert.ReferenceIdeal.Step.b17 j s := by
  unfold Cert.ReferenceIdeal.Step.b17
  rw [← al_14 h]
  try rfl
set_option maxRecDepth 8192 in
theorem al_18 (h : Holds V0 s j) : (extractStridedSlice S2x768 ![0, 2304] (res_main_while0b_v171 V0) slices_S2x3072_S2x768_0_2304 : (Proc.devRef .tc main_while0b_v175 : DevRef τ sig).ty.Contents (Elt F)) = Cert.ReferenceIdeal.Step.b18 j s := by
  unfold Cert.ReferenceIdeal.Step.b18
  rw [← al_14 h]
  try rfl
set_option maxRecDepth 8192 in
theorem al_19 (h : Holds V0 s j) : (Host.negf (extractStridedSlice S2x768 ![0, 768] (res_main_while0b_v171 V0) slices_S2x3072_S2x768_0_768) : (Proc.devRef .tc main_while0b_v176 : DevRef τ sig).ty.Contents (Elt F)) = Cert.ReferenceIdeal.Step.b19 j s := by
  unfold Cert.ReferenceIdeal.Step.b19
  rw [← al_16 h]
  try rfl
set_option maxRecDepth 8192 in
theorem al_20 (h : Holds V0 s j) : (Host.exp (Host.negf (extractStridedSlice S2x768 ![0, 768] (res_main_while0b_v171 V0) slices_S2x3072_S2x768_0_768)) : (Proc.devRef .tc main_while0b_v177 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (constant S_ .f32 0x3F800000#32 : (Proc.devRef .tc main_while0b_cst_25 : DevRef τ sig).ty.Contents (Elt F)) = Cert.ReferenceIdeal.Step.b21 j s := by
  unfold Cert.ReferenceIdeal.Step.b21
  rfl
set_option maxRecDepth 8192 in
theorem al_22 (h : Holds V0 s j) : (broadcastInDim S2x768 ![] bcast_S_S2x768 (constant S_ .f32 0x3F800000#32) : (Proc.devRef .tc main_while0b_v178 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (addf (broadcastInDim S2x768 ![] bcast_S_S2x768 (constant S_ .f32 0x3F800000#32)) (Host.exp (Host.negf (extractStridedSlice S2x768 ![0, 768] (res_main_while0b_v171 V0) slices_S2x3072_S2x768_0_768))) : (Proc.devRef .tc main_while0b_v179 : DevRef τ sig).ty.Contents (Elt F)) = Cert.ReferenceIdeal.Step.b23 j s := by
  unfold Cert.ReferenceIdeal.Step.b23
  rw [← al_22 h, ← al_20 h]
  try rfl
set_option maxRecDepth 8192 in
theorem al_24 (h : Holds V0 s j) : (constant S_ .f32 0x3F800000#32 : (Proc.devRef .tc main_while0b_cst_26 : DevRef τ sig).ty.Contents (Elt F)) = Cert.ReferenceIdeal.Step.b24 j s := by
  unfold Cert.ReferenceIdeal.Step.b24
  rfl
set_option maxRecDepth 8192 in
theorem al_25 (h : Holds V0 s j) : (broadcastInDim S2x768 ![] bcast_S_S2x768 (constant S_ .f32 0x3F800000#32) : (Proc.devRef .tc main_while0b_v180 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (Host.divf (broadcastInDim S2x768 ![] bcast_S_S2x768 (constant S_ .f32 0x3F800000#32)) (addf (broadcastInDim S2x768 ![] bcast_S_S2x768 (constant S_ .f32 0x3F800000#32)) (Host.exp (Host.negf (extractStridedSlice S2x768 ![0, 768] (res_main_while0b_v171 V0) slices_S2x3072_S2x768_0_768)))) : (Proc.devRef .tc main_while0b_v181 : DevRef τ sig).ty.Contents (Elt F)) = Cert.ReferenceIdeal.Step.b26 j s := by
  unfold Cert.ReferenceIdeal.Step.b26
  rw [← al_25 h, ← al_23 h]
  try rfl
set_option maxRecDepth 8192 in
theorem al_27 (h : Holds V0 s j) : (mulf (Host.divf (broadcastInDim S2x768 ![] bcast_S_S2x768 (constant S_ .f32 0x3F800000#32)) (addf (broadcastInDim S2x768 ![] bcast_S_S2x768 (constant S_ .f32 0x3F800000#32)) (Host.exp (Host.negf (extractStridedSlice S2x768 ![0, 768] (res_main_while0b_v171 V0) slices_S2x3072_S2x768_0_768))))) (V0 (Proc.devRef .tc main_v52_7)) : (Proc.devRef .tc main_while0b_v182 : DevRef τ sig).ty.Contents (Elt F)) = Cert.ReferenceIdeal.Step.b27 j s := by
  unfold Cert.ReferenceIdeal.Step.b27
  rw [← al_26 h, h.f_7]
  try rfl
set_option maxRecDepth 8192 in
theorem al_28 (h : Holds V0 s j) : (Host.negf (extractStridedSlice S2x768 ![0, 0] (res_main_while0b_v171 V0) slices_S2x3072_S2x768_0_0) : (Proc.devRef .tc main_while0b_v183 : DevRef τ sig).ty.Contents (Elt F)) = Cert.ReferenceIdeal.Step.b28 j s := by
  unfold Cert.ReferenceIdeal.Step.b28
  rw [← al_15 h]
  try rfl
set_option maxRecDepth 8192 in
theorem al_29 (h : Holds V0 s j) : (Host.exp (Host.negf (extractStridedSlice S2x768 ![0, 0] (res_main_while0b_v171 V0) slices_S2x3072_S2x768_0_0)) : (Proc.devRef .tc main_while0b_v184 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (constant S_ .f32 0x3F800000#32 : (Proc.devRef .tc main_while0b_cst_27 : DevRef τ sig).ty.Contents (Elt F)) = Cert.ReferenceIdeal.Step.b30 j s := by
  unfold Cert.ReferenceIdeal.Step.b30
  rfl
set_option maxRecDepth 8192 in
theorem al_31 (h : Holds V0 s j) : (broadcastInDim S2x768 ![] bcast_S_S2x768 (constant S_ .f32 0x3F800000#32) : (Proc.devRef .tc main_while0b_v185 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (addf (broadcastInDim S2x768 ![] bcast_S_S2x768 (constant S_ .f32 0x3F800000#32)) (Host.exp (Host.negf (extractStridedSlice S2x768 ![0, 0] (res_main_while0b_v171 V0) slices_S2x3072_S2x768_0_0))) : (Proc.devRef .tc main_while0b_v186 : DevRef τ sig).ty.Contents (Elt F)) = Cert.ReferenceIdeal.Step.b32 j s := by
  unfold Cert.ReferenceIdeal.Step.b32
  rw [← al_31 h, ← al_29 h]
  try rfl
set_option maxRecDepth 8192 in
theorem al_33 (h : Holds V0 s j) : (constant S_ .f32 0x3F800000#32 : (Proc.devRef .tc main_while0b_cst_28 : DevRef τ sig).ty.Contents (Elt F)) = Cert.ReferenceIdeal.Step.b33 j s := by
  unfold Cert.ReferenceIdeal.Step.b33
  rfl
set_option maxRecDepth 8192 in
theorem al_34 (h : Holds V0 s j) : (broadcastInDim S2x768 ![] bcast_S_S2x768 (constant S_ .f32 0x3F800000#32) : (Proc.devRef .tc main_while0b_v187 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (Host.divf (broadcastInDim S2x768 ![] bcast_S_S2x768 (constant S_ .f32 0x3F800000#32)) (addf (broadcastInDim S2x768 ![] bcast_S_S2x768 (constant S_ .f32 0x3F800000#32)) (Host.exp (Host.negf (extractStridedSlice S2x768 ![0, 0] (res_main_while0b_v171 V0) slices_S2x3072_S2x768_0_0)))) : (Proc.devRef .tc main_while0b_v188 : DevRef τ sig).ty.Contents (Elt F)) = Cert.ReferenceIdeal.Step.b35 j s := by
  unfold Cert.ReferenceIdeal.Step.b35
  rw [← al_34 h, ← al_32 h]
  try rfl
set_option maxRecDepth 8192 in
theorem al_36 (h : Holds V0 s j) : (Host.tanh (extractStridedSlice S2x768 ![0, 1536] (res_main_while0b_v171 V0) slices_S2x3072_S2x768_0_1536) : (Proc.devRef .tc main_while0b_v189 : DevRef τ sig).ty.Contents (Elt F)) = Cert.ReferenceIdeal.Step.b36 j s := by
  unfold Cert.ReferenceIdeal.Step.b36
  rw [← al_17 h]
  try rfl
set_option maxRecDepth 8192 in
theorem al_37 (h : Holds V0 s j) : (mulf (Host.divf (broadcastInDim S2x768 ![] bcast_S_S2x768 (constant S_ .f32 0x3F800000#32)) (addf (broadcastInDim S2x768 ![] bcast_S_S2x768 (constant S_ .f32 0x3F800000#32)) (Host.exp (Host.negf (extractStridedSlice S2x768 ![0, 0] (res_main_while0b_v171 V0) slices_S2x3072_S2x768_0_0))))) (Host.tanh (extractStridedSlice S2x768 ![0, 1536] (res_main_while0b_v171 V0) slices_S2x3072_S2x768_0_1536)) : (Proc.devRef .tc main_while0b_v190 : DevRef τ sig).ty.Contents (Elt F)) = Cert.ReferenceIdeal.Step.b37 j s := by
  unfold Cert.ReferenceIdeal.Step.b37
  rw [← al_35 h, ← al_36 h]
  try rfl
set_option maxRecDepth 8192 in
theorem al_38 (h : Holds V0 s j) : (res_main_while0b_v191 V0 : (Proc.devRef .tc main_while0b_v191 : DevRef τ sig).ty.Contents (Elt F)) = Cert.ReferenceIdeal.Step.b38 j s := by
  unfold res_main_while0b_v191 Cert.ReferenceIdeal.Step.b38
  rw [← al_27 h, ← al_37 h]
  try rfl
set_option maxRecDepth 8192 in
theorem al_39 (h : Holds V0 s j) : (Host.negf (extractStridedSlice S2x768 ![0, 2304] (res_main_while0b_v171 V0) slices_S2x3072_S2x768_0_2304) : (Proc.devRef .tc main_while0b_v192 : DevRef τ sig).ty.Contents (Elt F)) = Cert.ReferenceIdeal.Step.b39 j s := by
  unfold Cert.ReferenceIdeal.Step.b39
  rw [← al_18 h]
  try rfl
set_option maxRecDepth 8192 in
theorem al_40 (h : Holds V0 s j) : (Host.exp (Host.negf (extractStridedSlice S2x768 ![0, 2304] (res_main_while0b_v171 V0) slices_S2x3072_S2x768_0_2304)) : (Proc.devRef .tc main_while0b_v193 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (constant S_ .f32 0x3F800000#32 : (Proc.devRef .tc main_while0b_cst_29 : DevRef τ sig).ty.Contents (Elt F)) = Cert.ReferenceIdeal.Step.b41 j s := by
  unfold Cert.ReferenceIdeal.Step.b41
  rfl
set_option maxRecDepth 8192 in
theorem al_42 (h : Holds V0 s j) : (broadcastInDim S2x768 ![] bcast_S_S2x768 (constant S_ .f32 0x3F800000#32) : (Proc.devRef .tc main_while0b_v194 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (addf (broadcastInDim S2x768 ![] bcast_S_S2x768 (constant S_ .f32 0x3F800000#32)) (Host.exp (Host.negf (extractStridedSlice S2x768 ![0, 2304] (res_main_while0b_v171 V0) slices_S2x3072_S2x768_0_2304))) : (Proc.devRef .tc main_while0b_v195 : DevRef τ sig).ty.Contents (Elt F)) = Cert.ReferenceIdeal.Step.b43 j s := by
  unfold Cert.ReferenceIdeal.Step.b43
  rw [← al_42 h, ← al_40 h]
  try rfl
set_option maxRecDepth 8192 in
theorem al_44 (h : Holds V0 s j) : (constant S_ .f32 0x3F800000#32 : (Proc.devRef .tc main_while0b_cst_30 : DevRef τ sig).ty.Contents (Elt F)) = Cert.ReferenceIdeal.Step.b44 j s := by
  unfold Cert.ReferenceIdeal.Step.b44
  rfl
set_option maxRecDepth 8192 in
theorem al_45 (h : Holds V0 s j) : (broadcastInDim S2x768 ![] bcast_S_S2x768 (constant S_ .f32 0x3F800000#32) : (Proc.devRef .tc main_while0b_v196 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (Host.divf (broadcastInDim S2x768 ![] bcast_S_S2x768 (constant S_ .f32 0x3F800000#32)) (addf (broadcastInDim S2x768 ![] bcast_S_S2x768 (constant S_ .f32 0x3F800000#32)) (Host.exp (Host.negf (extractStridedSlice S2x768 ![0, 2304] (res_main_while0b_v171 V0) slices_S2x3072_S2x768_0_2304)))) : (Proc.devRef .tc main_while0b_v197 : DevRef τ sig).ty.Contents (Elt F)) = Cert.ReferenceIdeal.Step.b46 j s := by
  unfold Cert.ReferenceIdeal.Step.b46
  rw [← al_45 h, ← al_43 h]
  try rfl
set_option maxRecDepth 8192 in
theorem al_47 (h : Holds V0 s j) : (Host.tanh (res_main_while0b_v191 V0) : (Proc.devRef .tc main_while0b_v198 : DevRef τ sig).ty.Contents (Elt F)) = Cert.ReferenceIdeal.Step.b47 j s := by
  unfold Cert.ReferenceIdeal.Step.b47
  rw [← al_38 h]
  try rfl
set_option maxRecDepth 8192 in
theorem al_48 (h : Holds V0 s j) : (res_main_while0b_v199 V0 : (Proc.devRef .tc main_while0b_v199 : DevRef τ sig).ty.Contents (Elt F)) = Cert.ReferenceIdeal.Step.b48 j s := by
  unfold res_main_while0b_v199 Cert.ReferenceIdeal.Step.b48
  rw [← al_46 h, ← al_47 h]
  try rfl
set_option maxRecDepth 8192 in
theorem al_49 (h : Holds V0 s j) : (broadcastInDim S1x2x768 ![1, 2] bcast_S2x768_S1x2x768_1_2 (res_main_while0b_v199 V0) : (Proc.devRef .tc main_while0b_call1_v0 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (constantI S_ 32 0#32 : (Proc.devRef .tc main_while0b_call1_c : DevRef τ sig).ty.Contents (Elt F)) = Cert.ReferenceIdeal.Step.b50 j s := by
  unfold Cert.ReferenceIdeal.Step.b50
  rfl
set_option maxRecDepth 8192 in
theorem al_51 (h : Holds V0 s j) : (constantI S_ 32 0#32 : (Proc.devRef .tc main_while0b_call1_c_0 : DevRef τ sig).ty.Contents (Elt F)) = Cert.ReferenceIdeal.Step.b51 j s := by
  unfold Cert.ReferenceIdeal.Step.b51
  rfl
set_option maxRecDepth 8192 in
theorem al_52 (h : Holds V0 s j) : (Host.dynamicUpdateSlice (V0 (Proc.devRef .tc main_v52_8)) (broadcastInDim S1x2x768 ![1, 2] bcast_S2x768_S1x2x768_1_2 (res_main_while0b_v199 V0)) (fun k => (((![V0 (Proc.devRef .tc main_v52_5), constantI S_ 32 0#32, constantI S_ 32 0#32] : Fin 3 → (⟨S_, .i32⟩ : BufTy).Contents (Elt F))) k (Shape.Idx.first h_S_)).toInt) updateFits_S369x2x768_S1x2x768 : (Proc.devRef .tc main_while0b_v200 : DevRef τ sig).ty.Contents (Elt F)) = Cert.ReferenceIdeal.Step.b52 j s := by
  unfold Cert.ReferenceIdeal.Step.b52
  rw [← al_49 h, ← al_50 h, ← al_51 h, h.f_8, h.n_5]
  try rfl

/-! One trip's step of the carried values is `step`, field by field; a counter steps to the next number. -/

theorem step_6 (h : Holds V0 s j) : step_main_v52_6 V0 = (step j s).main_v52_6 := by
  unfold step_main_v52_6 Cert.ReferenceIdeal.Step.step
  show id (res_main_while0b_v199 V0) = _
  rw [al_48 h]
  try rfl
theorem step_7 (h : Holds V0 s j) : step_main_v52_7 V0 = (step j s).main_v52_7 := by
  unfold step_main_v52_7 Cert.ReferenceIdeal.Step.step
  show id (res_main_while0b_v191 V0) = _
  rw [al_38 h]
  try rfl
theorem step_8 (h : Holds V0 s j) : step_main_v52_8 V0 = (step j s).main_v52_8 := by
  unfold step_main_v52_8 Cert.ReferenceIdeal.Step.step
  show id (Host.dynamicUpdateSlice (V0 (Proc.devRef .tc main_v52_8)) (broadcastInDim S1x2x768 ![1, 2] bcast_S2x768_S1x2x768_1_2 (res_main_while0b_v199 V0)) (fun k => (((![V0 (Proc.devRef .tc main_v52_5), constantI S_ 32 0#32, constantI S_ 32 0#32] : Fin 3 → (⟨S_, .i32⟩ : BufTy).Contents (Elt F))) k (Shape.Idx.first h_S_)).toInt) updateFits_S369x2x768_S1x2x768) = _
  exact al_52 h
theorem step_5 (h : Holds V0 s j) : step_main_v52_5 V0 = constantI S_ 32 (BitVec.ofNat 32 (j + 1)) := by
  unfold step_main_v52_5
  rw [h.n_5]
  funext i
  show BitVec.ofNat 32 j + 1#32 = BitVec.ofNat 32 (j + 1)
  simp only [BitVec.ofNat_add]

set_option maxRecDepth 8192 in
theorem out_main_v159_holds (h : Holds V0 s j) {x_main_arg2 : (⟨S2x369, .f32⟩ : BufTy).Contents (Elt F)} (h_main_arg2 : V0 (Proc.devRef .tc main_arg2) = x_main_arg2) {x_main_arg9 : (⟨S768x768, .f32⟩ : BufTy).Contents (Elt F)} (h_main_arg9 : V0 (Proc.devRef .tc main_arg9) = x_main_arg9) {x_main_arg10 : (⟨S768, .f32⟩ : BufTy).Contents (Elt F)} (h_main_arg10 : V0 (Proc.devRef .tc main_arg10) = x_main_arg10) {x_main_arg11 : (⟨S768x768, .f32⟩ : BufTy).Contents (Elt F)} (h_main_arg11 : V0 (Proc.devRef .tc main_arg11) = x_main_arg11) {x_main_arg12 : (⟨S768, .f32⟩ : BufTy).Contents (Elt F)} (h_main_arg12 : V0 (Proc.devRef .tc main_arg12) = x_main_arg12) {x_main_arg13 : (⟨S768x768, .f32⟩ : BufTy).Contents (Elt F)} (h_main_arg13 : V0 (Proc.devRef .tc main_arg13) = x_main_arg13) {x_main_arg14 : (⟨S768, .f32⟩ : BufTy).Contents (Elt F)} (h_main_arg14 : V0 (Proc.devRef .tc main_arg14) = x_main_arg14) {x_main_arg15 : (⟨S768x768, .f32⟩ : BufTy).Contents (Elt F)} (h_main_arg15 : V0 (Proc.devRef .tc main_arg15) = x_main_arg15) {x_main_arg16 : (⟨S768, .f32⟩ : BufTy).Contents (Elt F)} (h_main_arg16 : V0 (Proc.devRef .tc main_arg16) = x_main_arg16) {x_main_arg17 : (⟨S768, .f32⟩ : BufTy).Contents (Elt F)} (h_main_arg17 : V0 (Proc.devRef .tc main_arg17) = x_main_arg17) {x_main_arg18 : (⟨S768, .f32⟩ : BufTy).Contents (Elt F)} (h_main_arg18 : V0 (Proc.devRef .tc main_arg18) = x_main_arg18) {x_main_arg21 : (⟨S12x768, .f32⟩ : BufTy).Contents (Elt F)} (h_main_arg21 : V0 (Proc.devRef .tc main_arg21) = x_main_arg21) {x_main_arg22 : (⟨S768x768, .f32⟩ : BufTy).Contents (Elt F)} (h_main_arg22 : V0 (Proc.devRef .tc main_arg22) = x_main_arg22) {x_main_arg23 : (⟨S768, .f32⟩ : BufTy).Contents (Elt F)} (h_main_arg23 : V0 (Proc.devRef .tc main_arg23) = x_main_arg23) {x_main_arg24 : (⟨S768x768, .f32⟩ : BufTy).Contents (Elt F)} (h_main_arg24 : V0 (Proc.devRef .tc main_arg24) = x_main_arg24) {x_main_arg25 : (⟨S768, .f32⟩ : BufTy).Contents (Elt F)} (h_main_arg25 : V0 (Proc.devRef .tc main_arg25) = x_main_arg25) {x_main_arg26 : (⟨S768x1536, .f32⟩ : BufTy).Contents (Elt F)} (h_main_arg26 : V0 (Proc.devRef .tc main_arg26) = x_main_arg26) {x_main_arg27 : (⟨S768, .f32⟩ : BufTy).Contents (Elt F)} (h_main_arg27 : V0 (Proc.devRef .tc main_arg27) = x_main_arg27) : out_main_v159 V0 = Cert.ReferenceIdeal.Step.R_main_v159 s x_main_arg2 x_main_arg9 x_main_arg10 x_main_arg11 x_main_arg12 x_main_arg13 x_main_arg14 x_main_arg15 x_main_arg16 x_main_arg17 x_main_arg18 x_main_arg21 x_main_arg22 x_main_arg23 x_main_arg24 x_main_arg25 x_main_arg26 x_main_arg27 := by
  unfold out_main_v159 Cert.ReferenceIdeal.Step.R_main_v159
  rw [h.f_8, h_main_arg2, h_main_arg9, h_main_arg10, h_main_arg11, h_main_arg12, h_main_arg13, h_main_arg14, h_main_arg15, h_main_arg16, h_main_arg17, h_main_arg18, h_main_arg21, h_main_arg22, h_main_arg23, h_main_arg24, h_main_arg25, h_main_arg26, h_main_arg27]
  try rfl

set_option maxRecDepth 8192 in
theorem out_main_v130_holds (h : Holds V0 s j) {x_main_arg2 : (⟨S2x369, .f32⟩ : BufTy).Contents (Elt F)} (h_main_arg2 : V0 (Proc.devRef .tc main_arg2) = x_main_arg2) {x_main_arg9 : (⟨S768x768, .f32⟩ : BufTy).Contents (Elt F)} (h_main_arg9 : V0 (Proc.devRef .tc main_arg9) = x_main_arg9) {x_main_arg10 : (⟨S768, .f32⟩ : BufTy).Contents (Elt F)} (h_main_arg10 : V0 (Proc.devRef .tc main_arg10) = x_main_arg10) {x_main_arg11 : (⟨S768x768, .f32⟩ : BufTy).Contents (Elt F)} (h_main_arg11 : V0 (Proc.devRef .tc main_arg11) = x_main_arg11) {x_main_arg12 : (⟨S768, .f32⟩ : BufTy).Contents (Elt F)} (h_main_arg12 : V0 (Proc.devRef .tc main_arg12) = x_main_arg12) {x_main_arg13 : (⟨S768x768, .f32⟩ : BufTy).Contents (Elt F)} (h_main_arg13 : V0 (Proc.devRef .tc main_arg13) = x_main_arg13) {x_main_arg14 : (⟨S768, .f32⟩ : BufTy).Contents (Elt F)} (h_main_arg14 : V0 (Proc.devRef .tc main_arg14) = x_main_arg14) {x_main_arg15 : (⟨S768x768, .f32⟩ : BufTy).Contents (Elt F)} (h_main_arg15 : V0 (Proc.devRef .tc main_arg15) = x_main_arg15) {x_main_arg16 : (⟨S768, .f32⟩ : BufTy).Contents (Elt F)} (h_main_arg16 : V0 (Proc.devRef .tc main_arg16) = x_main_arg16) {x_main_arg17 : (⟨S768, .f32⟩ : BufTy).Contents (Elt F)} (h_main_arg17 : V0 (Proc.devRef .tc main_arg17) = x_main_arg17) {x_main_arg18 : (⟨S768, .f32⟩ : BufTy).Contents (Elt F)} (h_main_arg18 : V0 (Proc.devRef .tc main_arg18) = x_main_arg18) {x_main_arg19 : (⟨S2x768, .f32⟩ : BufTy).Contents (Elt F)} (h_main_arg19 : V0 (Proc.devRef .tc main_arg19) = x_main_arg19) {x_main_arg20 : (⟨S2, .f32⟩ : BufTy).Contents (Elt F)} (h_main_arg20 : V0 (Proc.devRef .tc main_arg20) = x_main_arg20) : out_main_v130 V0 = Cert.ReferenceIdeal.Step.R_main_v130 s x_main_arg2 x_main_arg9 x_main_arg10 x_main_arg11 x_main_arg12 x_main_arg13 x_main_arg14 x_main_arg15 x_main_arg16 x_main_arg17 x_main_arg18 x_main_arg19 x_main_arg20 := by
  unfold out_main_v130 Cert.ReferenceIdeal.Step.R_main_v130
  rw [h.f_8, h_main_arg2, h_main_arg9, h_main_arg10, h_main_arg11, h_main_arg12, h_main_arg13, h_main_arg14, h_main_arg15, h_main_arg16, h_main_arg17, h_main_arg18, h_main_arg19, h_main_arg20]
  try rfl

/-- One trip keeps the valuation holding: `step` of the state, the same set-up values, the next number. -/
theorem holds_step (h : Holds V0 s j) : Holds (STEP V0) (step j s) (j + 1) where
  f_6 := (STEP_main_v52_6 V0).trans (step_6 h)
  f_7 := (STEP_main_v52_7 V0).trans (step_7 h)
  f_8 := (STEP_main_v52_8 V0).trans (step_8 h)
  n_5 := (STEP_main_v52_5 V0).trans (step_5 h)
  f_0 := (STEP_main_v52_0 V0).trans h.f_0
  f_1 := (STEP_main_v52_1 V0).trans h.f_1
  f_2 := (STEP_main_v52_2 V0).trans h.f_2
  f_3 := (STEP_main_v52_3 V0).trans h.f_3
  f_4 := (STEP_main_v52_4 V0).trans h.f_4

/-- The state the first trip starts from, of the memory the run starts from. -/
abbrev initState (m : (ℓ : Loc nD τ sig) → Buf (Elt F) ℓ) (c : Dev nD) : State F :=
  init (m ((c.tc : Thread nD τ).loc main_arg5)) (m ((c.tc : Thread nD τ).loc main_arg7)) (m ((c.tc : Thread nD τ).loc main_arg6)) (m ((c.tc : Thread nD τ).loc main_arg8)) (m ((c.tc : Thread nD τ).loc main_arg0)) (m ((c.tc : Thread nD τ).loc main_arg1)) (m ((c.tc : Thread nD τ).loc main_arg3)) (m ((c.tc : Thread nD τ).loc main_arg4))

end Cert.RefRun

end
-- ==== Proof.RefRun.lean ====
/- The reference's run stated over the state of one trip of its loop; the text of the generated module of that name, with the
   step of the third carried buffer closed by `exact`. -/
module

public import proofs.«01_k».proof.Proof.RefRunA

@[expose] public section

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The arguments the reference's set-up reads, at a core. -/
abbrev argAt (m : (ℓ : Loc nD τ sig) → Buf (Elt F) ℓ) (c : Dev nD) (r : Ref sig .tc) := m ((c.tc : Thread nD τ).loc r)

variable (m : (ℓ : Loc nD τ sig) → Buf (Elt F) ℓ) (c : Dev nD)

theorem u3_v0 : upto hostOps0 (launchContents m c) 3 (Proc.devRef .tc main_v0) = Cert.ReferenceIdeal.Step.A_main_v0 (argAt m c main_arg0) (argAt m c main_arg1) (argAt m c main_arg3) (argAt m c main_arg4) := by
  after_reads_simp
  rfl

theorem u3_v1 : upto hostOps0 (launchContents m c) 3 (Proc.devRef .tc main_v1) = Cert.ReferenceIdeal.Step.K_main_v1 := by
  after_reads_simp
  rfl

theorem u8_v4 : upto hostOps0 (launchContents m c) 8 (Proc.devRef .tc main_v4) = Cert.ReferenceIdeal.Step.A_main_v4 (argAt m c main_arg0) (argAt m c main_arg1) (argAt m c main_arg3) (argAt m c main_arg4) := by
  after_reads_simp
  rfl

theorem u8_v5 : upto hostOps0 (launchContents m c) 8 (Proc.devRef .tc main_v5) = Cert.ReferenceIdeal.Step.K_main_v5 := by
  after_reads_simp
  rfl

theorem u13_v8 : upto hostOps0 (launchContents m c) 13 (Proc.devRef .tc main_v8) = Cert.ReferenceIdeal.Step.A_main_v8 (argAt m c main_arg0) (argAt m c main_arg1) (argAt m c main_arg3) (argAt m c main_arg4) := by
  after_reads_simp
  rfl

theorem u13_v9 : upto hostOps0 (launchContents m c) 13 (Proc.devRef .tc main_v9) = Cert.ReferenceIdeal.Step.K_main_v9 := by
  after_reads_simp
  rfl

theorem u18_v12 : upto hostOps0 (launchContents m c) 18 (Proc.devRef .tc main_v12) = Cert.ReferenceIdeal.Step.A_main_v12 (argAt m c main_arg0) (argAt m c main_arg1) (argAt m c main_arg3) (argAt m c main_arg4) := by
  after_reads_simp
  rfl

theorem u18_v13 : upto hostOps0 (launchContents m c) 18 (Proc.devRef .tc main_v13) = Cert.ReferenceIdeal.Step.K_main_v13 := by
  after_reads_simp
  rfl

theorem u23_v16 : upto hostOps0 (launchContents m c) 23 (Proc.devRef .tc main_v16) = Cert.ReferenceIdeal.Step.A_main_v16 (argAt m c main_arg0) (argAt m c main_arg1) (argAt m c main_arg3) (argAt m c main_arg4) := by
  after_reads_simp
  rfl

theorem u23_v17 : upto hostOps0 (launchContents m c) 23 (Proc.devRef .tc main_v17) = Cert.ReferenceIdeal.Step.K_main_v17 := by
  after_reads_simp
  rfl

theorem u31_v20 : upto hostOps0 (launchContents m c) 31 (Proc.devRef .tc main_v20) = Cert.ReferenceIdeal.Step.A_main_v20 (argAt m c main_arg0) (argAt m c main_arg1) (argAt m c main_arg3) (argAt m c main_arg4) := by
  after_reads_simp
  rfl

theorem u31_v21 : upto hostOps0 (launchContents m c) 31 (Proc.devRef .tc main_v21) = Cert.ReferenceIdeal.Step.A_main_v21 (argAt m c main_arg0) (argAt m c main_arg1) (argAt m c main_arg3) (argAt m c main_arg4) := by
  after_reads_simp
  rw [u3_v0 m c, u3_v1 m c]
  rfl

theorem u31_v22 : upto hostOps0 (launchContents m c) 31 (Proc.devRef .tc main_v22) = Cert.ReferenceIdeal.Step.A_main_v22 (argAt m c main_arg0) (argAt m c main_arg1) (argAt m c main_arg3) (argAt m c main_arg4) := by
  after_reads_simp
  rw [u3_v0 m c, u3_v1 m c, u8_v4 m c, u8_v5 m c]
  rfl

theorem u31_v23 : upto hostOps0 (launchContents m c) 31 (Proc.devRef .tc main_v23) = Cert.ReferenceIdeal.Step.A_main_v23 (argAt m c main_arg0) (argAt m c main_arg1) (argAt m c main_arg3) (argAt m c main_arg4) := by
  after_reads_simp
  rw [u3_v0 m c, u3_v1 m c, u8_v4 m c, u8_v5 m c, u13_v8 m c, u13_v9 m c]
  rfl

theorem u31_v24 : upto hostOps0 (launchContents m c) 31 (Proc.devRef .tc main_v24) = Cert.ReferenceIdeal.Step.A_main_v24 (argAt m c main_arg0) (argAt m c main_arg1) (argAt m c main_arg3) (argAt m c main_arg4) := by
  after_reads_simp
  rw [u3_v0 m c, u3_v1 m c, u8_v4 m c, u8_v5 m c, u13_v8 m c, u13_v9 m c, u18_v12 m c, u18_v13 m c]
  rfl

theorem u31_v25 : upto hostOps0 (launchContents m c) 31 (Proc.devRef .tc main_v25) = Cert.ReferenceIdeal.Step.A_main_v25 (argAt m c main_arg0) (argAt m c main_arg1) (argAt m c main_arg3) (argAt m c main_arg4) := by
  after_reads_simp
  rw [u3_v0 m c, u3_v1 m c, u8_v4 m c, u8_v5 m c, u13_v8 m c, u13_v9 m c, u18_v12 m c, u18_v13 m c, u23_v16 m c, u23_v17 m c]
  rfl

/-- Six arrays stacked along the third axis, replaced one by one. -/
theorem cat26 {a0 a1 a2 a3 a4 a5 b0 b1 b2 b3 b4 b5 : (⟨S2x64x1x768, .f32⟩ : BufTy).Contents (Elt F)}
    (h0 : a0 = b0) (h1 : a1 = b1) (h2 : a2 = b2) (h3 : a3 = b3) (h4 : a4 = b4) (h5 : a5 = b5) :
    concatenate S2x64x6x768 2 [⟨S2x64x1x768, a0⟩, ⟨S2x64x1x768, a1⟩, ⟨S2x64x1x768, a2⟩, ⟨S2x64x1x768, a3⟩, ⟨S2x64x1x768, a4⟩, ⟨S2x64x1x768, a5⟩] concatenates_S2x64x1x768_S2x64x1x768_S2x64x1x768_S2x64x1x768_S2x64x1x768_S2x64x1x768_S2x64x6x768_d2
      = concatenate S2x64x6x768 2 [⟨S2x64x1x768, b0⟩, ⟨S2x64x1x768, b1⟩, ⟨S2x64x1x768, b2⟩, ⟨S2x64x1x768, b3⟩, ⟨S2x64x1x768, b4⟩, ⟨S2x64x1x768, b5⟩] concatenates_S2x64x1x768_S2x64x1x768_S2x64x1x768_S2x64x1x768_S2x64x1x768_S2x64x1x768_S2x64x6x768_d2 := by
  subst h0 h1 h2 h3 h4 h5
  rfl

theorem u44_v28 : upto hostOps0 (launchContents m c) 44 (Proc.devRef .tc main_v28) = Cert.ReferenceIdeal.Step.A_main_v28 (argAt m c main_arg0) (argAt m c main_arg1) (argAt m c main_arg3) (argAt m c main_arg4) := by
  after_reads_simp
  unfold Cert.ReferenceIdeal.Step.A_main_v28 Cert.ReferenceIdeal.Step.A_main_v27 Cert.ReferenceIdeal.Step.A_main_v26
  exact congrArg (fun z => shapeCast S2x354x768 (extractStridedSlice S2x59x6x768 ![0, 0, 0, 0] z slices_S2x64x6x768_S2x59x6x768_0_0_0_0) shapeCasts_S2x59x6x768_S2x354x768)
    (cat26 (u31_v20 m c) (u31_v21 m c) (u31_v22 m c) (u31_v23 m c) (u31_v24 m c) (u31_v25 m c))

theorem u44_v30 : upto hostOps0 (launchContents m c) 44 (Proc.devRef .tc main_v30) = Cert.ReferenceIdeal.Step.A_main_v30 (argAt m c main_arg0) (argAt m c main_arg1) (argAt m c main_arg3) (argAt m c main_arg4) := by
  after_reads_simp
  unfold Cert.ReferenceIdeal.Step.A_main_v30 Cert.ReferenceIdeal.Step.A_main_v29 Cert.ReferenceIdeal.Step.A_main_v26
  exact congrArg (fun z => shapeCast S2x5x768 (extractStridedSlice S2x1x5x768 ![0, 59, 0, 0] z slices_S2x64x6x768_S2x1x5x768_0_59_0_0) shapeCasts_S2x1x5x768_S2x5x768)
    (cat26 (u31_v20 m c) (u31_v21 m c) (u31_v22 m c) (u31_v23 m c) (u31_v24 m c) (u31_v25 m c))

theorem u44_v32 : upto hostOps0 (launchContents m c) 44 (Proc.devRef .tc main_v32) = Cert.ReferenceIdeal.Step.A_main_v32 (argAt m c main_arg0) (argAt m c main_arg1) (argAt m c main_arg3) (argAt m c main_arg4) := by
  after_reads_simp
  unfold Cert.ReferenceIdeal.Step.A_main_v32 Cert.ReferenceIdeal.Step.A_main_v31 Cert.ReferenceIdeal.Step.A_main_v26
  exact congrArg (fun z => shapeCast S2x4x768 (extractStridedSlice S2x1x4x768 ![0, 60, 0, 0] z slices_S2x64x6x768_S2x1x4x768_0_60_0_0) shapeCasts_S2x1x4x768_S2x4x768)
    (cat26 (u31_v20 m c) (u31_v21 m c) (u31_v22 m c) (u31_v23 m c) (u31_v24 m c) (u31_v25 m c))

theorem u44_v34 : upto hostOps0 (launchContents m c) 44 (Proc.devRef .tc main_v34) = Cert.ReferenceIdeal.Step.A_main_v34 (argAt m c main_arg0) (argAt m c main_arg1) (argAt m c main_arg3) (argAt m c main_arg4) := by
  after_reads_simp
  unfold Cert.ReferenceIdeal.Step.A_main_v34 Cert.ReferenceIdeal.Step.A_main_v33 Cert.ReferenceIdeal.Step.A_main_v26
  exact congrArg (fun z => shapeCast S2x3x768 (extractStridedSlice S2x1x3x768 ![0, 61, 0, 0] z slices_S2x64x6x768_S2x1x3x768_0_61_0_0) shapeCasts_S2x1x3x768_S2x3x768)
    (cat26 (u31_v20 m c) (u31_v21 m c) (u31_v22 m c) (u31_v23 m c) (u31_v24 m c) (u31_v25 m c))

theorem u44_v36 : upto hostOps0 (launchContents m c) 44 (Proc.devRef .tc main_v36) = Cert.ReferenceIdeal.Step.A_main_v36 (argAt m c main_arg0) (argAt m c main_arg1) (argAt m c main_arg3) (argAt m c main_arg4) := by
  after_reads_simp
  unfold Cert.ReferenceIdeal.Step.A_main_v36 Cert.ReferenceIdeal.Step.A_main_v35 Cert.ReferenceIdeal.Step.A_main_v26
  exact congrArg (fun z => shapeCast S2x2x768 (extractStridedSlice S2x1x2x768 ![0, 62, 0, 0] z slices_S2x64x6x768_S2x1x2x768_0_62_0_0) shapeCasts_S2x1x2x768_S2x2x768)
    (cat26 (u31_v20 m c) (u31_v21 m c) (u31_v22 m c) (u31_v23 m c) (u31_v24 m c) (u31_v25 m c))

theorem u44_v38 : upto hostOps0 (launchContents m c) 44 (Proc.devRef .tc main_v38) = Cert.ReferenceIdeal.Step.A_main_v38 (argAt m c main_arg0) (argAt m c main_arg1) (argAt m c main_arg3) (argAt m c main_arg4) := by
  after_reads_simp
  unfold Cert.ReferenceIdeal.Step.A_main_v38 Cert.ReferenceIdeal.Step.A_main_v37 Cert.ReferenceIdeal.Step.A_main_v26
  exact congrArg (fun z => shapeCast S2x1x768 (extractStridedSlice S2x1x1x768 ![0, 63, 0, 0] z slices_S2x64x6x768_S2x1x1x768_0_63_0_0) shapeCasts_S2x1x1x768_S2x1x768)
    (cat26 (u31_v20 m c) (u31_v21 m c) (u31_v22 m c) (u31_v23 m c) (u31_v24 m c) (u31_v25 m c))

theorem u47_v39 : upto hostOps0 (launchContents m c) 47 (Proc.devRef .tc main_v39) = Cert.ReferenceIdeal.Step.A_main_v39 (argAt m c main_arg0) (argAt m c main_arg1) (argAt m c main_arg3) (argAt m c main_arg4) := by
  after_reads_simp
  erw [u44_v28 m c, u44_v30 m c, u44_v32 m c, u44_v34 m c, u44_v36 m c, u44_v38 m c]
  rfl

theorem u47_v41 : upto hostOps0 (launchContents m c) 47 (Proc.devRef .tc main_v41) = Cert.ReferenceIdeal.Step.A_main_v41 (argAt m c main_arg0) (argAt m c main_arg1) (argAt m c main_arg3) (argAt m c main_arg4) := by
  after_reads_simp
  rfl

set_option maxRecDepth 65536 in
/-- What @main's operations before the loop leave: the set-up values, number 0, the initial state. -/
theorem entry_holds : Holds (entryContents preI m c) (initState m c) 0 := by
  constructor
  case f_0 =>
    simp only [entryContents, afterL_cons, afterL_nil]
    after_reads_simp
    rw [u47_v39 m c, u47_v41 m c]
    rfl
  all_goals (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 369 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v159) = Cert.ReferenceIdeal.Step.R_main_v159 (it c 369) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_v130) = Cert.ReferenceIdeal.Step.R_main_v130 (it c 369) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c =>
    have hk := holds_iter m c (it c) (h0 c) (hs c) 369
    ⟨(h c).1.trans (out_main_v159_holds hk (iter_main_arg2 m c 369) (iter_main_arg9 m c 369) (iter_main_arg10 m c 369) (iter_main_arg11 m c 369) (iter_main_arg12 m c 369) (iter_main_arg13 m c 369) (iter_main_arg14 m c 369) (iter_main_arg15 m c 369) (iter_main_arg16 m c 369) (iter_main_arg17 m c 369) (iter_main_arg18 m c 369) (iter_main_arg21 m c 369) (iter_main_arg22 m c 369) (iter_main_arg23 m c 369) (iter_main_arg24 m c 369) (iter_main_arg25 m c 369) (iter_main_arg26 m c 369) (iter_main_arg27 m c 369)), (h c).2.1.trans (out_main_v130_holds hk (iter_main_arg2 m c 369) (iter_main_arg9 m c 369) (iter_main_arg10 m c 369) (iter_main_arg11 m c 369) (iter_main_arg12 m c 369) (iter_main_arg13 m c 369) (iter_main_arg14 m c 369) (iter_main_arg15 m c 369) (iter_main_arg16 m c 369) (iter_main_arg17 m c 369) (iter_main_arg18 m c 369) (iter_main_arg19 m c 369) (iter_main_arg20 m c 369)), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.1, (h c).2.2.2.2.2.2.2.2.2.2.2.2.2.2.2.2.2.2.2.2.2.1, (h c).2.2.2.2.2.2.2.2.2.2.2.2.2.2.2.2.2.2.2.2.2.2.1, (h c).2.2.2.2.2.2.2.2.2.2.2.2.2.2.2.2.2.2.2.2.2.2.2.1, (h c).2.2.2.2.2.2.2.2.2.2.2.2.2.2.2.2.2.2.2.2.2.2.2.2.1, (h c).2.2.2.2.2.2.2.2.2.2.2.2.2.2.2.2.2.2.2.2.2.2.2.2.2.1, (h c).2.2.2.2.2.2.2.2.2.2.2.2.2.2.2.2.2.2.2.2.2.2.2.2.2.2.1, (h c).2.2.2.2.2.2.2.2.2.2.2.2.2.2.2.2.2.2.2.2.2.2.2.2.2.2.2.1, (h c).2.2.2.2.2.2.2.2.2.2.2.2.2.2.2.2.2.2.2.2.2.2.2.2.2.2.2.2.1, (h c).2.2.2.2.2.2.2.2.2.2.2.2.2.2.2.2.2.2.2.2.2.2.2.2.2.2.2.2.2⟩) (Value.run m ρ)

end Cert.RefRun

end
-- ==== Proof.RefSet.lean ====
/- What the reference computes before its loop, entry by entry: the spans and the combined rows. -/
module

public import proofs.«01_k».proof.Proof.Gen.ReferenceIdeal.Step
public import Idealize.ShloMosaic.Lib.Pipeline.ValueKit
public import proofs.«01_k».proof.Proof.Model

@[expose] public section

set_option maxRecDepth 16384

noncomputable section

namespace Cert.ReferenceIdeal.RV

open Idealize.ShloMosaic Cert.ReferenceIdeal Cert.ReferenceIdeal.Gen Cert.ReferenceIdeal.Step

variable (x0 : FVec Ideal S2x64x768 .f32) (x1 : FVec Ideal S2x768 .f32) (x3 : FVec Ideal S768x1536 .f32) (x4 : FVec Ideal S768 .f32)

/-- A column of the sequence. -/
abbrev col (n : Fin 2) (x : Fin 768) : Fin 64 → EReal := fun i => x0 (ix3 n i x)

abbrev neg : EReal := Ideal.ofBits .f32 0xF149F2CA#32

theorem shift_eq (s : Fin 64 → EReal) (i : Fin 64) (k N : ℕ) (hN : N + k = 64) (f : i.val < N → EReal) (hf : ∀ h : i.val < N, f h = s ⟨k + i.val, by omega⟩) :
    (if h : i.val < N then f h else neg) = Spec.pos neg s (i.val + k) := by
  unfold Spec.pos
  by_cases h : i.val < N
  · rw [dif_pos h, dif_pos (by omega), hf h]
    exact congrArg s (Fin.ext (Nat.add_comm _ _))
  · rw [dif_neg h, dif_neg (by omega)]

theorem shift1 (n : Fin 2) (i : Fin 64) (x : Fin 768) : A_main_v2 (F := Ideal) x0 x1 x3 x4 (ix3 n i x) = Spec.pos neg (col x0 n x) (i.val + 1) := by
  pointwise [A_main_v2, A_main_v0, K_main_v1, K_main_cst]
  exact shift_eq (col x0 n x) i 1 63 rfl _ fun _ => rfl

theorem shift2 (n : Fin 2) (i : Fin 64) (x : Fin 768) : A_main_v6 (F := Ideal) x0 x1 x3 x4 (ix3 n i x) = Spec.pos neg (col x0 n x) (i.val + 2) := by
  pointwise [A_main_v6, A_main_v4, K_main_v5, K_main_cst_0]
  exact shift_eq (col x0 n x) i 2 62 rfl _ fun _ => rfl

theorem shift3 (n : Fin 2) (i : Fin 64) (x : Fin 768) : A_main_v10 (F := Ideal) x0 x1 x3 x4 (ix3 n i x) = Spec.pos neg (col x0 n x) (i.val + 3) := by
  pointwise [A_main_v10, A_main_v8, K_main_v9, K_main_cst_1]
  exact shift_eq (col x0 n x) i 3 61 rfl _ fun _ => rfl

theorem shift4 (n : Fin 2) (i : Fin 64) (x : Fin 768) : A_main_v14 (F := Ideal) x0 x1 x3 x4 (ix3 n i x) = Spec.pos neg (col x0 n x) (i.val + 4) := by
  pointwise [A_main_v14, A_main_v12, K_main_v13, K_main_cst_2]
  exact shift_eq (col x0 n x) i 4 60 rfl _ fun _ => rfl

theorem shift5 (n : Fin 2) (i : Fin 64) (x : Fin 768) : A_main_v18 (F := Ideal) x0 x1 x3 x4 (ix3 n i x) = Spec.pos neg (col x0 n x) (i.val + 5) := by
  pointwise [A_main_v18, A_main_v16, K_main_v17, K_main_cst_3]
  exact shift_eq (col x0 n x) i 5 59 rfl _ fun _ => rfl

theorem max1 (n : Fin 2) (i : Fin 64) (x : Fin 768) : A_main_v3 (F := Ideal) x0 x1 x3 x4 (ix3 n i x) = Spec.slide neg (col x0 n x) 1 i.val := by
  pointwise [A_main_v3]
  exact congrArg₂ max (Spec.pos_of_lt neg (col x0 n x) i.isLt).symm (shift1 x0 x1 x3 x4 n i x)

theorem max2 (n : Fin 2) (i : Fin 64) (x : Fin 768) : A_main_v7 (F := Ideal) x0 x1 x3 x4 (ix3 n i x) = Spec.slide neg (col x0 n x) 2 i.val := by
  pointwise [A_main_v7]
  exact congrArg₂ max (max1 x0 x1 x3 x4 n i x) (shift2 x0 x1 x3 x4 n i x)

theorem max3 (n : Fin 2) (i : Fin 64) (x : Fin 768) : A_main_v11 (F := Ideal) x0 x1 x3 x4 (ix3 n i x) = Spec.slide neg (col x0 n x) 3 i.val := by
  pointwise [A_main_v11]
  exact congrArg₂ max (max2 x0 x1 x3 x4 n i x) (shift3 x0 x1 x3 x4 n i x)

theorem max4 (n : Fin 2) (i : Fin 64) (x : Fin 768) : A_main_v15 (F := Ideal) x0 x1 x3 x4 (ix3 n i x) = Spec.slide neg (col x0 n x) 4 i.val := by
  pointwise [A_main_v15]
  exact congrArg₂ max (max3 x0 x1 x3 x4 n i x) (shift4 x0 x1 x3 x4 n i x)

theorem max5 (n : Fin 2) (i : Fin 64) (x : Fin 768) : A_main_v19 (F := Ideal) x0 x1 x3 x4 (ix3 n i x) = Spec.slide neg (col x0 n x) 5 i.val := by
  pointwise [A_main_v19]
  exact congrArg₂ max (max4 x0 x1 x3 x4 n i x) (shift5 x0 x1 x3 x4 n i x)

theorem st (n : Fin 2) (i : Fin 64) (w : Fin 6) (x : Fin 768) : A_main_v26 (F := Ideal) x0 x1 x3 x4 (ix4 n i w x) = Spec.slide neg (col x0 n x) w.val i.val := by
  pointwise [A_main_v26, A_main_v20, A_main_v21, A_main_v22, A_main_v23, A_main_v24, A_main_v25]
  rw [max1, max2, max3, max4, max5]
  fin_cases w
  · exact (Spec.pos_of_lt neg (col x0 n x) i.isLt).symm
  all_goals rfl

theorem p28 (n : Fin 2) (l : Fin 354) (x : Fin 768) : A_main_v28 (F := Ideal) x0 x1 x3 x4 (ix3 n l x) = A_main_v26 x0 x1 x3 x4 (ix4 n ⟨l.val / 6, by omega⟩ ⟨l.val % 6, by omega⟩ x) := by
  pointwise [A_main_v28, A_main_v27]

theorem p30 (n : Fin 2) (l : Fin 5) (x : Fin 768) : A_main_v30 (F := Ideal) x0 x1 x3 x4 (ix3 n l x) = A_main_v26 x0 x1 x3 x4 (ix4 n 59 ⟨l.val, by omega⟩ x) := by
  pointwise [A_main_v30, A_main_v29]

theorem p32 (n : Fin 2) (l : Fin 4) (x : Fin 768) : A_main_v32 (F := Ideal) x0 x1 x3 x4 (ix3 n l x) = A_main_v26 x0 x1 x3 x4 (ix4 n 60 ⟨l.val, by omega⟩ x) := by
  pointwise [A_main_v32, A_main_v31]

theorem p34 (n : Fin 2) (l : Fin 3) (x : Fin 768) : A_main_v34 (F := Ideal) x0 x1 x3 x4 (ix3 n l x) = A_main_v26 x0 x1 x3 x4 (ix4 n 61 ⟨l.val, by omega⟩ x) := by
  pointwise [A_main_v34, A_main_v33]

theorem p36 (n : Fin 2) (l : Fin 2) (x : Fin 768) : A_main_v36 (F := Ideal) x0 x1 x3 x4 (ix3 n l x) = A_main_v26 x0 x1 x3 x4 (ix4 n 62 ⟨l.val, by omega⟩ x) := by
  pointwise [A_main_v36, A_main_v35]

theorem p38 (n : Fin 2) (l : Fin 1) (x : Fin 768) : A_main_v38 (F := Ideal) x0 x1 x3 x4 (ix3 n l x) = A_main_v26 x0 x1 x3 x4 (ix4 n 63 ⟨l.val, by omega⟩ x) := by
  pointwise [A_main_v38, A_main_v37]

theorem p39 (n : Fin 2) (l : Fin 369) (x : Fin 768) : A_main_v39 (F := Ideal) x0 x1 x3 x4 (ix3 n l x) = Spec.slide neg (col x0 n x) (Lit.spanVN l.val) (Lit.spanSN l.val) := by
  pointwise [A_main_v39]
  unfold Lit.spanVN Lit.spanSN
  by_cases h1 : l.val < 354
  · simp only [dif_pos h1, if_pos h1]
    rw [p28, st]
  by_cases h2 : l.val < 359
  · simp only [dif_neg h1, if_neg h1, if_pos h2, dif_pos (show l.val - 354 < 5 by omega)]
    rw [p30, st]
    rfl
  by_cases h3 : l.val < 363
  · simp only [dif_neg h1, if_neg h1, if_neg h2, if_pos h3, dif_neg (show ¬ l.val - 354 < 5 by omega), dif_pos (show l.val - 354 - 5 < 4 by omega)]
    rw [p32, st]
    exact congrArg (fun k => Spec.slide neg (col x0 n x) k 60) (by show l.val - 354 - 5 = _; omega)
  by_cases h4 : l.val < 366
  · simp only [dif_neg h1, if_neg h1, if_neg h2, if_neg h3, if_pos h4, dif_neg (show ¬ l.val - 354 < 5 by omega), dif_neg (show ¬ l.val - 354 - 5 < 4 by omega),
      dif_pos (show l.val - 354 - 5 - 4 < 3 by omega)]
    rw [p34, st]
    exact congrArg (fun k => Spec.slide neg (col x0 n x) k 61) (by show l.val - 354 - 5 - 4 = _; omega)
  by_cases h5 : l.val < 368
  · simp only [dif_neg h1, if_neg h1, if_neg h2, if_neg h3, if_neg h4, if_pos h5, dif_neg (show ¬ l.val - 354 < 5 by omega), dif_neg (show ¬ l.val - 354 - 5 < 4 by omega),
      dif_neg (show ¬ l.val - 354 - 5 - 4 < 3 by omega), dif_pos (show l.val - 354 - 5 - 4 - 3 < 2 by omega)]
    rw [p36, st]
    exact congrArg (fun k => Spec.slide neg (col x0 n x) k 62) (by show l.val - 354 - 5 - 4 - 3 = _; omega)
  · simp only [dif_neg h1, if_neg h1, if_neg h2, if_neg h3, if_neg h4, if_neg h5, dif_neg (show ¬ l.val - 354 < 5 by omega), dif_neg (show ¬ l.val - 354 - 5 < 4 by omega),
      dif_neg (show ¬ l.val - 354 - 5 - 4 < 3 by omega), dif_neg (show ¬ l.val - 354 - 5 - 4 - 3 < 2 by omega)]
    rw [p38, st]
    exact congrArg (fun k => Spec.slide neg (col x0 n x) k 63) (by show l.val - 354 - 5 - 4 - 3 - 2 = _; omega)

theorem p42l (n : Fin 2) (l : Fin 369) (x : Fin 768) : A_main_v42 (F := Ideal) x0 x1 x3 x4 (ix3 n l ⟨x.val, by omega⟩) = A_main_v39 x0 x1 x3 x4 (ix3 n l x) := by
  pointwise [A_main_v42, A_main_v41, A_main_v40]

theorem p42r (n : Fin 2) (l : Fin 369) (x : Fin 768) : A_main_v42 (F := Ideal) x0 x1 x3 x4 (ix3 n l ⟨768 + x.val, by omega⟩) = x1 (ix2 n x) := by
  pointwise [A_main_v42, A_main_v41, A_main_v40]

theorem sum_split (f : Fin 1536 → EReal) : ∑ x, f x = (∑ x : Fin 768, f ⟨x.val, by omega⟩) + ∑ x : Fin 768, f ⟨768 + x.val, by omega⟩ :=
  Fin.sum_univ_add (a := 768) (b := 768) f

theorem p50 (n : Fin 2) (l : Fin 369) (d : Fin 768) : A_main_v50 (F := Ideal) x0 x1 x3 x4 (ix3 l n d)
    = Ideal.tanh ((∑ x : Fin 768, Spec.slide neg (col x0 n x) (Lit.spanVN l.val) (Lit.spanSN l.val) * x3 (ix2 d ⟨x.val, by omega⟩))
        + (∑ x : Fin 768, x1 (ix2 n x) * x3 (ix2 d ⟨768 + x.val, by omega⟩)) + x4 (ix1 d)) := by
  pointwise [A_main_v50, A_main_v48, A_main_v47, A_main_v46, A_main_v45, A_main_v44, A_main_v43]
  refine congrArg Ideal.tanh (congrArg (· + x4 (ix1 d)) ((sum_split _).trans ?_))
  exact congrArg₂ (· + ·) (Finset.sum_congr rfl fun x _ => by rw [p42l, p39]) (Finset.sum_congr rfl fun x _ => by rw [p42r])

end Cert.ReferenceIdeal.RV

end
-- ==== Proof.RefTrip.lean ====
/- One trip of the reference's loop, entry by entry, and the states the trips go through. -/
module

public import proofs.«01_k».proof.Proof.Gen.ReferenceIdeal.Step
public import Idealize.ShloMosaic.Lib.Pipeline.ValueKit
public import proofs.«01_k».proof.Proof.Model

@[expose] public section

set_option maxRecDepth 16384

noncomputable section

namespace Cert.ReferenceIdeal.RV

open Idealize.ShloMosaic Cert.ReferenceIdeal Cert.ReferenceIdeal.Gen Cert.ReferenceIdeal.Step

variable (j : ℕ) (s : State Ideal)

/-- Where a trip's slice starts. -/
abbrev at0 : Fin 3 → Int := fun k => BitVec.toInt ((![constantI S_ 32 (BitVec.ofNat 32 j), constantI S_ 32 0#32, constantI S_ 32 0#32] : Fin 3 → IVec S_ 32) k (Shape.Idx.first h_S_))

theorem at0_row (hj : j < 369) (h) : Host.clampedStart S369x2x768 S1x2x768 h (at0 j) 0 = j := by
  refine Host.clampedStart_of_le h _ _ j ?_ (by show j + 1 ≤ 369; omega)
  show (BitVec.ofNat 32 j).toInt = (j : Int)
  rw [BitVec.toInt_ofNat']
  exact Int.bmod_eq_of_le (by omega) (by omega)

theorem at0_1 (h) : Host.clampedStart S369x2x768 S1x2x768 h (at0 j) 1 = 0 := Host.clampedStart_of_le h _ _ 0 rfl (Nat.le_refl 2)

theorem at0_2 (h) : Host.clampedStart S369x2x768 S1x2x768 h (at0 j) 2 = 0 := Host.clampedStart_of_le h _ _ 0 rfl (Nat.le_refl 768)

theorem t3 (hj : j < 369) (n : Fin 2) (x : Fin 768) : b3 j s (ix2 n x) = s.main_v52_0 (ix3 ⟨j, hj⟩ n x) := by
  pointwise [b3, b2, b1, b0]
  refine congrArg s.main_v52_0 (congr (congr (congrArg ix3 (Fin.ext ?_)) (Fin.ext ?_)) (Fin.ext ?_))
  · exact at0_row j hj rfl
  · exact (congrArg (· + n.val) (at0_1 j rfl)).trans (Nat.zero_add _)
  · exact (congrArg (· + x.val) (at0_2 j rfl)).trans (Nat.zero_add _)

/-- A row of a two-row array. -/
abbrev row (A : FVec Ideal S2x768 .f32) (n : Fin 2) : Fin 768 → EReal := fun d => A (ix2 n d)

/-- What enters the gates from outside the recurrence. -/
def ext (n : Fin 2) (l : ℕ) (k : Fin 3072) : EReal :=
  if h : l < 369 then (∑ x : Fin 768, s.main_v52_0 (ix3 ⟨l, h⟩ n x) * s.main_v52_1 (ix2 k x)) + (s.main_v52_2 (ix1 k) + s.main_v52_4 (ix1 k)) else 0

/-- The recurrence's weights. -/
def rec (k : Fin 768) (x : Fin 3072) : EReal := s.main_v52_3 (ix2 x k)

theorem t14 (hj : j < 369) (n : Fin 2) (k : Fin 3072) : b14 j s (ix2 n k) = Spec.gate (ext s n j) (rec s) (row s.main_v52_6 n) k := by
  pointwise [b14, b13, b12, b11, b10, b9, b8, b7, b6, b5, b4]
  unfold Spec.gate ext rec row
  rw [dif_pos hj, ← add_assoc, add_right_comm _ (s.main_v52_4 (ix1 k))]
  simp only [t3 j s hj]

theorem sig (x : EReal) : Ideal.div 1 (1 + Ideal.exp (-x)) = Ideal.logistic x := rfl

theorem t38 (hj : j < 369) (n : Fin 2) (d : Fin 768) : b38 j s (ix2 n d) = Spec.cellC (ext s n j) (rec s) (row s.main_v52_6 n) (row s.main_v52_7 n) d := by
  pointwise [b38, b37, b36, b35, b34, b33, b32, b31, b30, b29, b28, b27, b26, b25, b24, b23, b22, b21, b20, b19, b18, b17, b16, b15]
  rw [t14 j s hj, t14 j s hj, t14 j s hj]
  rfl

theorem t48 (hj : j < 369) (n : Fin 2) (d : Fin 768) : b48 j s (ix2 n d) = Spec.cellH (ext s n j) (rec s) (row s.main_v52_6 n) (row s.main_v52_7 n) d := by
  pointwise [b48, b47, b46, b45, b44, b43, b42, b41, b40, b39, b18]
  rw [t14 j s hj, t38 j s hj]
  rfl

theorem t52 (hj : j < 369) (l : Fin 369) (n : Fin 2) (d : Fin 768) : b52 j s (ix3 l n d) = if l.val = j then b48 j s (ix2 n d) else s.main_v52_8 (ix3 l n d) := by
  pointwise [b52, b51, b50, b49]
  have e0 := at0_row j hj rfl
  have e1 := at0_1 j rfl
  have e2 := at0_2 j rfl
  by_cases h : l.val = j
  · rw [if_pos h, dif_pos (by
      refine ⟨⟨?_, ?_⟩, ?_, ?_⟩
      · exact e0.trans_le h.ge
      · exact h.trans_lt ((Nat.lt_succ_self j).trans_eq (congrArg (· + 1) e0.symm))
      · exact e1.trans_le (Nat.zero_le _)
      · exact e2.trans_le (Nat.zero_le _))]
    refine congrArg (b48 j s) (congr (congrArg ix2 (Fin.ext ?_)) (Fin.ext ?_))
    · exact (congrArg (n.val - ·) e1).trans (Nat.sub_zero _)
    · exact (congrArg (d.val - ·) e2).trans (Nat.sub_zero _)
  · rw [if_neg h, dif_neg]
    rintro ⟨⟨h1, h2⟩, -⟩
    have h1' := e0.symm.trans_le h1
    have h2' := h2.trans_eq (congrArg (· + 1) e0)
    exact h (by omega)

/-! ## The states -/

variable (it : ℕ → State Ideal) (hs : ∀ k, it (k + 1) = step k (it k))

include hs

theorem keeps (k : ℕ) (n : Fin 2) : ext (it k) n = ext (it 0) n ∧ rec (it k) = rec (it 0) := by
  induction k with
  | zero => exact ⟨rfl, rfl⟩
  | succ k ih => rw [hs k]; exact ih

/-- The carried rows after `k` trips. -/
theorem carried (h6 : ∀ n d, (it 0).main_v52_6 (ix2 n d) = 0) (h7 : ∀ n d, (it 0).main_v52_7 (ix2 n d) = 0) (n : Fin 2) (k : ℕ) (hk : k ≤ 369) :
    row (it k).main_v52_6 n = (Spec.lstm (ext (it 0) n) (rec (it 0)) k).1 ∧ row (it k).main_v52_7 n = (Spec.lstm (ext (it 0) n) (rec (it 0)) k).2 := by
  induction k with
  | zero => exact ⟨funext fun d => h6 n d, funext fun d => h7 n d⟩
  | succ k ih =>
    obtain ⟨i1, i2⟩ := ih (by omega)
    have ek := keeps it hs k n
    constructor
    · funext d
      show (it (k + 1)).main_v52_6 (ix2 n d) = _
      rw [hs k, step_main_v52_6, t48 k _ (by omega), ek.1, ek.2, i1, i2]
      rfl
    · funext d
      show (it (k + 1)).main_v52_7 (ix2 n d) = _
      rw [hs k, step_main_v52_7, t38 k _ (by omega), ek.1, ek.2, i1, i2]
      rfl

/-- The rows written by the first `k` trips. -/
theorem written (h6 : ∀ n d, (it 0).main_v52_6 (ix2 n d) = 0) (h7 : ∀ n d, (it 0).main_v52_7 (ix2 n d) = 0) (k : ℕ) (hk : k ≤ 369) (l : Fin 369) (hl : l.val < k) (n : Fin 2) (d : Fin 768) :
    (it k).main_v52_8 (ix3 l n d) = (Spec.lstm (ext (it 0) n) (rec (it 0)) (l.val + 1)).1 d := by
  induction k with
  | zero => omega
  | succ k ih =>
    have e : (it (k + 1)).main_v52_8 (ix3 l n d) = if l.val = k then (it (k + 1)).main_v52_6 (ix2 n d) else (it k).main_v52_8 (ix3 l n d) := by
      rw [hs k, step_main_v52_8, step_main_v52_6]
      exact t52 k _ (by omega) l n d
    rw [e]
    by_cases h : l.val = k
    · rw [if_pos h, h]
      exact congrFun (carried it hs h6 h7 n (k + 1) hk).1 d
    · rw [if_neg h]
      exact ih (by omega) (by omega)

end Cert.ReferenceIdeal.RV

end
-- ==== Proof.RefHid.lean ====
/- What the reference's loop leaves: the recurrence of the problem's mathematics. -/
module

public import proofs.«01_k».proof.Proof.RefRun
public import proofs.«01_k».proof.Proof.RefSet
public import proofs.«01_k».proof.Proof.RefTrip

@[expose] public section

set_option maxRecDepth 16384

noncomputable section

namespace Cert.ReferenceIdeal.RH

open Idealize.ShloMosaic Idealize.ShloMosaic.TcCoe Idealize.SL.Sem
open Cert.ReferenceIdeal Cert.ReferenceIdeal.Gen Cert.ReferenceIdeal.Step
open Cert.ReferenceIdeal.RV hiding sig

variable (m : (ℓ : Loc nD τ sig) → Buf (Elt Ideal) ℓ) (c : Dev nD)

abbrev g0 : FVec Ideal S2x64x768 .f32 := m ((c.tc : Thread nD τ).loc main_arg0)
abbrev g1 : FVec Ideal S2x768 .f32 := m ((c.tc : Thread nD τ).loc main_arg1)
abbrev g2 : FVec Ideal S2x369 .f32 := m ((c.tc : Thread nD τ).loc main_arg2)
abbrev g3 : FVec Ideal S768x1536 .f32 := m ((c.tc : Thread nD τ).loc main_arg3)
abbrev g4 : FVec Ideal S768 .f32 := m ((c.tc : Thread nD τ).loc main_arg4)
abbrev g5 : FVec Ideal S3072x768 .f32 := m ((c.tc : Thread nD τ).loc main_arg5)
abbrev g6 : FVec Ideal S3072x768 .f32 := m ((c.tc : Thread nD τ).loc main_arg6)
abbrev g7 : FVec Ideal S3072 .f32 := m ((c.tc : Thread nD τ).loc main_arg7)
abbrev g8 : FVec Ideal S3072 .f32 := m ((c.tc : Thread nD τ).loc main_arg8)
abbrev g9 : FVec Ideal S768x768 .f32 := m ((c.tc : Thread nD τ).loc main_arg9)
abbrev g10 : FVec Ideal S768 .f32 := m ((c.tc : Thread nD τ).loc main_arg10)
abbrev g11 : FVec Ideal S768x768 .f32 := m ((c.tc : Thread nD τ).loc main_arg11)
abbrev g12 : FVec Ideal S768 .f32 := m ((c.tc : Thread nD τ).loc main_arg12)
abbrev g13 : FVec Ideal S768x768 .f32 := m ((c.tc : Thread nD τ).loc main_arg13)
abbrev g14 : FVec Ideal S768 .f32 := m ((c.tc : Thread nD τ).loc main_arg14)
abbrev g15 : FVec Ideal S768x768 .f32 := m ((c.tc : Thread nD τ).loc main_arg15)
abbrev g16 : FVec Ideal S768 .f32 := m ((c.tc : Thread nD τ).loc main_arg16)
abbrev g17 : FVec Ideal S768 .f32 := m ((c.tc : Thread nD τ).loc main_arg17)
abbrev g18 : FVec Ideal S768 .f32 := m ((c.tc : Thread nD τ).loc main_arg18)
abbrev g19 : FVec Ideal S2x768 .f32 := m ((c.tc : Thread nD τ).loc main_arg19)
abbrev g20 : FVec Ideal S2 .f32 := m ((c.tc : Thread nD τ).loc main_arg20)
abbrev g21 : FVec Ideal S12x768 .f32 := m ((c.tc : Thread nD τ).loc main_arg21)
abbrev g22 : FVec Ideal S768x768 .f32 := m ((c.tc : Thread nD τ).loc main_arg22)
abbrev g23 : FVec Ideal S768 .f32 := m ((c.tc : Thread nD τ).loc main_arg23)
abbrev g24 : FVec Ideal S768x768 .f32 := m ((c.tc : Thread nD τ).loc main_arg24)
abbrev g25 : FVec Ideal S768 .f32 := m ((c.tc : Thread nD τ).loc main_arg25)
abbrev g26 : FVec Ideal S768x1536 .f32 := m ((c.tc : Thread nD τ).loc main_arg26)
abbrev g27 : FVec Ideal S768 .f32 := m ((c.tc : Thread nD τ).loc main_arg27)

/-- The arguments as the mathematics takes them. -/
def args : Spec.Args where
  seq := fun b i x => g0 m c (ix3 b i x)
  pool := fun b x => g1 m c (ix2 b x)
  mask := fun b x => g2 m c (ix2 b x)
  cW := fun d x => g3 m c (ix2 d x)
  cb := fun d => g4 m c (ix1 d)
  Wih := fun j x => g5 m c (ix2 j x)
  Whh := fun j x => g6 m c (ix2 j x)
  bih := fun j => g7 m c (ix1 j)
  bhh := fun j => g8 m c (ix1 j)
  Wq := fun k x => g9 m c (ix2 k x)
  bq := fun k => g10 m c (ix1 k)
  Wk := fun k x => g11 m c (ix2 k x)
  bk := fun k => g12 m c (ix1 k)
  Wv := fun k x => g13 m c (ix2 k x)
  bv := fun k => g14 m c (ix1 k)
  Wo := fun k x => g15 m c (ix2 k x)
  bo := fun k => g16 m c (ix1 k)
  lg := fun k => g17 m c (ix1 k)
  lb := fun k => g18 m c (ix1 k)
  clsW := fun t k => g19 m c (ix2 t k)
  clsb := fun t => g20 m c (ix1 t)
  rel := fun r x => g21 m c (ix2 r x)
  uW := fun k x => g22 m c (ix2 k x)
  ub := fun k => g23 m c (ix1 k)
  vW := fun k x => g24 m c (ix2 k x)
  vb := fun k => g25 m c (ix1 k)
  sW := fun n k => g26 m c (ix2 n k)
  sb := fun n => g27 m c (ix1 n)

theorem zeros (n : Fin 2) (d : Fin 768) : K_main_v49 (F := Ideal) (ix2 n d) = 0 := by
  pointwise [K_main_v49, K_main_cst_4]

theorem ext_eq (n : Fin 2) (l : ℕ) (hl : l < 369) : ext (Cert.RefRun.initState m c) n l = Spec.gin (args m c) n l := by
  funext k
  unfold ext
  rw [dif_pos hl]
  refine congrArg (· + (g7 m c (ix1 k) + g8 m c (ix1 k))) (Finset.sum_congr rfl fun x _ => congrArg (· * g5 m c (ix2 k x)) ?_)
  exact p50 (g0 m c) (g1 m c) (g3 m c) (g4 m c) n ⟨l, hl⟩ x

/-- The rows the loop's last state holds. -/
theorem hid_at (it : ℕ → State Ideal) (h0 : it 0 = Cert.RefRun.initState m c) (hs : ∀ k, it (k + 1) = step k (it k)) (l : Fin 369) (n : Fin 2) (d : Fin 768) :
    (it 369).main_v52_8 (ix3 l n d) = Spec.hid (args m c) n l.val d := by
  have z6 : ∀ n d, (it 0).main_v52_6 (ix2 n d) = 0 := fun n d => by rw [h0]; exact zeros n d
  have z7 : ∀ n d, (it 0).main_v52_7 (ix2 n d) = 0 := fun n d => by rw [h0]; exact zeros n d
  rw [written it hs z6 z7 369 (Nat.le_refl _) l l.isLt n d, h0, Spec.lstm_congr (N := 369) (ext_eq m c n) (l.val + 1) (by omega)]
  rfl

end Cert.ReferenceIdeal.RH

end
-- ==== Proof.RefStage.lean ====
/- What the reference computes after its loop, in stages. -/
module

public import proofs.«01_k».proof.Proof.Gen.ReferenceIdeal.Step
public import Idealize.ShloMosaic.Lib.Pipeline.ValueKit
public import proofs.«01_k».proof.Proof.Model

@[expose] public section

set_option maxRecDepth 16384

noncomputable section

namespace Cert.ReferenceIdeal.RV

open Idealize.ShloMosaic Cert.ReferenceIdeal Cert.ReferenceIdeal.Gen Cert.ReferenceIdeal.Step

/-! ## The stages -/

/-- An affine map of every row. -/
def prj (X : FVec Ideal S2x369x768 .f32) (W : FVec Ideal S768x768 .f32) (b : FVec Ideal S768 .f32) : FVec Ideal S2x369x768 .f32 :=
  addf (Host.dotGeneral dot_S2x369x768_S768x768_S2x369x768_2_0_01_1_n_n none X (transpose S768x768 [1, 0] W transposes_S768x768_S768x768_1_0))
    (broadcastInDim S2x369x768 ![0, 1, 2] bcast_S1x1x768_S2x369x768_0_1_2 (broadcastInDim S1x1x768 ![2] bcast_S768_S1x1x768_2 b))

/-- The scores of every head. -/
def scr (Q K : FVec Ideal S2x369x768 .f32) (mk : FVec Ideal S2x369 .f32) : FVec Ideal S2x12x369x369 .f32 :=
  addf (Host.divf (Host.dotGeneral dot_S2x369x12x64_S2x369x12x64_S2x12x369x369_3_3_1_1_02_02 none (shapeCast S2x369x12x64 Q shapeCasts_S2x369x768_S2x369x12x64) (shapeCast S2x369x12x64 K shapeCasts_S2x369x768_S2x369x12x64))
      (broadcastInDim S2x12x369x369 ![] bcast_S_S2x12x369x369 (constant S_ .f32 0x41000000#32)))
    (broadcastInDim S2x12x369x369 ![0, 1, 2, 3] bcast_S2x1x1x369_S2x12x369x369_0_1_2_3
      (mulf (broadcastInDim S2x1x1x369 ![0, 3] bcast_S2x369_S2x1x1x369_0_3 (subf (broadcastInDim S2x369 ![] bcast_S_S2x369 (constant S_ .f32 0x3F800000#32)) mk))
        (broadcastInDim S2x1x1x369 ![] bcast_S_S2x1x1x369 (constant S_ .f32 0xC61C4000#32))))

/-- The rows' maxima. -/
def tops (S : FVec Ideal S2x12x369x369 .f32) : FVec Ideal S2x12x369 .f32 :=
  Host.reduce FloatOps.maximumf S (constant S_ .f32 0xFF800000#32) reducesTo_S2x12x369x369_S2x12x369_d3 h_S_

/-- The exponentials of the scores less what stands for their row. -/
def exr (S : FVec Ideal S2x12x369x369 .f32) (T : FVec Ideal S2x12x369 .f32) : FVec Ideal S2x12x369x369 .f32 :=
  Host.exp (subf S (broadcastInDim S2x12x369x369 ![0, 1, 2, 3] bcast_S2x12x369x1_S2x12x369x369_0_1_2_3 (broadcastInDim S2x12x369x1 ![0, 1, 2] bcast_S2x12x369_S2x12x369x1_0_1_2
    (maximumf (broadcastInDim S2x12x369 ![] bcast_S_S2x12x369 (constant S_ .f32 0xFF800000#32)) T))))

/-- The exponentials of the scores less their row's maximum. -/
def exs (S : FVec Ideal S2x12x369x369 .f32) : FVec Ideal S2x12x369x369 .f32 := exr S (tops S)

/-- The weights. -/
def wts (E : FVec Ideal S2x12x369x369 .f32) : FVec Ideal S2x12x369x369 .f32 :=
  Host.divf E (broadcastInDim S2x12x369x369 ![0, 1, 2, 3] bcast_S2x12x369x1_S2x12x369x369_0_1_2_3 (broadcastInDim S2x12x369x1 ![0, 1, 2] bcast_S2x12x369_S2x12x369x1_0_1_2
    (Host.reduceAdd E (constant S_ .f32 0x00000000#32) reducesTo_S2x12x369x369_S2x12x369_d3 h_S_)))

/-- The heads' outputs side by side. -/
def ctxs (V : FVec Ideal S2x369x768 .f32) (P : FVec Ideal S2x12x369x369 .f32) : FVec Ideal S2x369x768 .f32 :=
  shapeCast S2x369x768 (transpose S2x369x12x64 [0, 3, 1, 2] (Host.dotGeneral dot_S2x369x12x64_S2x12x369x369_S2x12x64x369_1_3_3_2_02_01 none (shapeCast S2x369x12x64 V shapeCasts_S2x369x768_S2x369x12x64) P)
    transposes_S2x12x64x369_S2x369x12x64_0_3_1_2) shapeCasts_S2x369x12x64_S2x369x768

/-- The rows' means. -/
def avg (X : FVec Ideal S2x369x768 .f32) : FVec Ideal S2x369x1 .f32 :=
  Host.divf (broadcastInDim S2x369x1 ![0, 1] bcast_S2x369_S2x369x1_0_1 (Host.reduceAdd X (constant S_ .f32 0x00000000#32) reducesTo_S2x369x768_S2x369_d2 h_S_))
    (broadcastInDim S2x369x1 ![] bcast_S_S2x369x1 (constant S_ .f32 0x44400000#32))

/-- The rows less their means. -/
def dev (X : FVec Ideal S2x369x768 .f32) : FVec Ideal S2x369x768 .f32 :=
  subf X (broadcastInDim S2x369x768 ![0, 1, 2] bcast_S2x369x1_S2x369x768_0_1_2 (avg X))

/-- A vector in every row. -/
def rep (b : FVec Ideal S768 .f32) : FVec Ideal S2x369x768 .f32 :=
  broadcastInDim S2x369x768 ![0, 1, 2] bcast_S1x1x768_S2x369x768_0_1_2 (broadcastInDim S1x1x768 ![2] bcast_S768_S1x1x768_2 b)

/-- The rows normalized, scaled and shifted. -/
def nrm (X : FVec Ideal S2x369x768 .f32) (g b : FVec Ideal S768 .f32) : FVec Ideal S2x369x768 .f32 :=
  addf (mulf (mulf (dev X) (broadcastInDim S2x369x768 ![0, 1, 2] bcast_S2x369x1_S2x369x768_0_1_2
    (Host.rsqrt (addf (avg (mulf (dev X) (dev X))) (broadcastInDim S2x369x1 ![] bcast_S_S2x369x1 (constant S_ .f32 0x2B8CBCCC#32)))))) (rep g)) (rep b)

/-- The attention layer over the recurrence's outputs. -/
def lay (Y : FVec Ideal S369x2x768 .f32) (mk : FVec Ideal S2x369 .f32) (Wq : FVec Ideal S768x768 .f32) (bq : FVec Ideal S768 .f32) (Wk : FVec Ideal S768x768 .f32) (bk : FVec Ideal S768 .f32)
    (Wv : FVec Ideal S768x768 .f32) (bv : FVec Ideal S768 .f32) (Wo : FVec Ideal S768x768 .f32) (bo g b : FVec Ideal S768 .f32) : FVec Ideal S2x369x768 .f32 :=
  nrm (addf (prj (ctxs (prj (transpose S2x369x768 [1, 0, 2] Y transposes_S369x2x768_S2x369x768_1_0_2) Wv bv)
      (wts (exs (scr (prj (transpose S2x369x768 [1, 0, 2] Y transposes_S369x2x768_S2x369x768_1_0_2) Wq bq) (prj (transpose S2x369x768 [1, 0, 2] Y transposes_S369x2x768_S2x369x768_1_0_2) Wk bk) mk)))) Wo bo)
    (transpose S2x369x768 [1, 0, 2] Y transposes_S369x2x768_S2x369x768_1_0_2)) g b

/-- The class scores. -/
def clsf (X : FVec Ideal S2x369x768 .f32) (W : FVec Ideal S2x768 .f32) (b : FVec Ideal S2 .f32) : FVec Ideal S2x369x2 .f32 :=
  addf (Host.dotGeneral dot_S2x369x768_S768x2_S2x369x2_2_0_01_1_n_n none X (transpose S768x2 [1, 0] W transposes_S2x768_S768x2_1_0))
    (broadcastInDim S2x369x2 ![0, 1, 2] bcast_S1x1x2_S2x369x2_0_1_2 (broadcastInDim S1x1x2 ![2] bcast_S2_S1x1x2_2 b))

/-- A half of the pair projection. -/
def half0 (X : FVec Ideal S2x369x768 .f32) (W : FVec Ideal S768x1536 .f32) : FVec Ideal S2x369x768 .f32 :=
  Host.dotGeneral dot_S2x369x768_S768x768_S2x369x768_2_0_01_1_n_n none (Host.tanh X)
    (transpose S768x768 [1, 0] (extractStridedSlice S768x768 ![0, 0] W slices_S768x1536_S768x768_0_0) transposes_S768x768_S768x768_1_0)

/-- The other half of the pair projection. -/
def half1 (X : FVec Ideal S2x369x768 .f32) (W : FVec Ideal S768x1536 .f32) : FVec Ideal S2x369x768 .f32 :=
  Host.dotGeneral dot_S2x369x768_S768x768_S2x369x768_2_0_01_1_n_n none (Host.tanh X)
    (transpose S768x768 [1, 0] (extractStridedSlice S768x768 ![0, 768] W slices_S768x1536_S768x768_0_768) transposes_S768x768_S768x768_1_0)

/-- The pair scores. -/
def pairs (R : FVec Ideal S12x768 .f32) (A B : FVec Ideal S2x369x768 .f32) (b : FVec Ideal S768 .f32) : FVec Ideal S2x369x12x369 .f32 :=
  transpose S2x369x12x369 [1, 2, 0, 3] (Host.dotGeneral dot_S12x768_S2x369x369x768_S12x2x369x369_1_3_0_012_n_n none R (Host.tanh (addf (addf
    (broadcastInDim S2x369x369x768 ![0, 1, 2, 3] bcast_S2x1x369x768_S2x369x369x768_0_1_2_3 (broadcastInDim S2x1x369x768 ![0, 2, 3] bcast_S2x369x768_S2x1x369x768_0_2_3 A))
    (broadcastInDim S2x369x369x768 ![0, 1, 2, 3] bcast_S2x369x1x768_S2x369x369x768_0_1_2_3 (broadcastInDim S2x369x1x768 ![0, 1, 3] bcast_S2x369x768_S2x369x1x768_0_1_3 B)))
    (broadcastInDim S2x369x369x768 ![0, 1, 2, 3] bcast_S1x1x1x768_S2x369x369x768_0_1_2_3 (broadcastInDim S1x1x1x768 ![3] bcast_S768_S1x1x1x768_3 b)))))
    transposes_S12x2x369x369_S2x369x12x369_1_2_0_3

theorem stage130 (s : State Ideal) (x2 : FVec Ideal S2x369 .f32) (x9 : FVec Ideal S768x768 .f32) (x10 : FVec Ideal S768 .f32) (x11 : FVec Ideal S768x768 .f32) (x12 : FVec Ideal S768 .f32)
    (x13 : FVec Ideal S768x768 .f32) (x14 : FVec Ideal S768 .f32) (x15 : FVec Ideal S768x768 .f32) (x16 x17 x18 : FVec Ideal S768 .f32) (x19 : FVec Ideal S2x768 .f32) (x20 : FVec Ideal S2 .f32) :
    R_main_v130 s x2 x9 x10 x11 x12 x13 x14 x15 x16 x17 x18 x19 x20 = clsf (lay s.main_v52_8 x2 x9 x10 x11 x12 x13 x14 x15 x16 x17 x18) x19 x20 := by
  unfold R_main_v130
  rfl

theorem stage159 (s : State Ideal) (x2 : FVec Ideal S2x369 .f32) (x9 : FVec Ideal S768x768 .f32) (x10 : FVec Ideal S768 .f32) (x11 : FVec Ideal S768x768 .f32) (x12 : FVec Ideal S768 .f32)
    (x13 : FVec Ideal S768x768 .f32) (x14 : FVec Ideal S768 .f32) (x15 : FVec Ideal S768x768 .f32) (x16 x17 x18 : FVec Ideal S768 .f32) (x21 : FVec Ideal S12x768 .f32) (x22 : FVec Ideal S768x768 .f32) (x23 : FVec Ideal S768 .f32)
    (x24 : FVec Ideal S768x768 .f32) (x25 : FVec Ideal S768 .f32) (x26 : FVec Ideal S768x1536 .f32) (x27 : FVec Ideal S768 .f32) :
    R_main_v159 s x2 x9 x10 x11 x12 x13 x14 x15 x16 x17 x18 x21 x22 x23 x24 x25 x26 x27
      = pairs x21 (half0 (prj (lay s.main_v52_8 x2 x9 x10 x11 x12 x13 x14 x15 x16 x17 x18) x22 x23) x26) (half1 (prj (lay s.main_v52_8 x2 x9 x10 x11 x12 x13 x14 x15 x16 x17 x18) x24 x25) x26) x27 := by
  unfold R_main_v159
  rfl

end Cert.ReferenceIdeal.RV

end
-- ==== Proof.RefOut.lean ====
/- What the reference computes after its loop, entry by entry. -/
module

public import proofs.«01_k».proof.Proof.RefStage
public import Idealize.ShloMosaic.Lib.Pipeline.ValueKit
public import proofs.«01_k».proof.Proof.Model

@[expose] public section

set_option maxRecDepth 16384

noncomputable section

namespace Cert.ReferenceIdeal.RV

open Idealize.ShloMosaic Cert.ReferenceIdeal Cert.ReferenceIdeal.Gen Cert.ReferenceIdeal.Step

/-! ## Read at an entry -/

theorem prj_at (X : FVec Ideal S2x369x768 .f32) (W : FVec Ideal S768x768 .f32) (b : FVec Ideal S768 .f32) (n : Fin 2) (l : Fin 369) (d : Fin 768) :
    prj X W b (ix3 n l d) = Spec.lin (fun l x => X (ix3 n l x)) (fun k x => W (ix2 k x)) (fun k => b (ix1 k)) l d := by
  pointwise [prj]
  rfl

theorem eighth (x : EReal) : Ideal.div x (Ideal.ofBits .f32 0x41000000#32) = x * Ideal.ofBits .f32 0x3E000000#32 := by
  have h8 : Ideal.ofBits .f32 0x41000000#32 = ((8 : ℝ) : EReal) := by
    simp [Ideal.ofBits, Ideal.ieee, -EReal.coe_mul]; norm_num
  have h1 : Ideal.ofBits .f32 0x3E000000#32 = ((1 / 8 : ℝ) : EReal) := by
    simp [Ideal.ofBits, Ideal.ieee, -EReal.coe_mul]; norm_num
  rw [h8, h1, Ideal.div_coe (by norm_num)]

theorem scr_at (Q K : FVec Ideal S2x369x768 .f32) (mk : FVec Ideal S2x369 .f32) (n : Fin 2) (d : Fin 768) (l x : Fin 369) :
    scr Q K mk (ix4 n ⟨d.val / 64, by omega⟩ l x) = Spec.score (fun x => (Ideal.ofBits .f32 0x3F800000#32 - mk (ix2 n x)) * Ideal.ofBits .f32 0xC61C4000#32)
      (fun l x => Q (ix3 n l x)) (fun l x => K (ix3 n l x)) l d x := by
  pointwise [scr]
  rw [eighth]
  rfl

theorem tops_at (S : FVec Ideal S2x12x369x369 .f32) (n : Fin 2) (h : Fin 12) (l : Fin 369) :
    tops S (ix3 n h l) = Finset.fold max (Ideal.ofBits .f32 0xFF800000#32) (fun x : Fin 369 => S (ix4 n h l x)) Finset.univ := by
  pointwise [tops]

theorem top_max {N : ℕ} (f : Fin N → EReal) : max (Ideal.ofBits .f32 0xFF800000#32) (Finset.fold max (Ideal.ofBits .f32 0xFF800000#32) f Finset.univ)
    = Finset.fold max (Ideal.ofBits .f32 0xFF800000#32) f Finset.univ := max_eq_right ((Finset.le_fold_max _).2 (.inl le_rfl))

theorem exr_at (S : FVec Ideal S2x12x369x369 .f32) (T : FVec Ideal S2x12x369 .f32) (n : Fin 2) (h : Fin 12) (l x : Fin 369) :
    exr S T (ix4 n h l x) = Ideal.exp (S (ix4 n h l x) - max (Ideal.ofBits .f32 0xFF800000#32) (T (ix3 n h l))) := by
  pointwise [exr]

theorem exs_at (S : FVec Ideal S2x12x369x369 .f32) (n : Fin 2) (h : Fin 12) (l x : Fin 369) :
    exs S (ix4 n h l x) = Ideal.exp (S (ix4 n h l x) - Finset.fold max (Ideal.ofBits .f32 0xFF800000#32) (fun x : Fin 369 => S (ix4 n h l x)) Finset.univ) := by
  rw [exs, exr_at, tops_at, top_max]

theorem wts_at (E : FVec Ideal S2x12x369x369 .f32) (n : Fin 2) (h : Fin 12) (l x : Fin 369) :
    wts E (ix4 n h l x) = Ideal.div (E (ix4 n h l x)) (∑ x : Fin 369, E (ix4 n h l x)) := by
  pointwise [wts]

theorem ctxs_at (V : FVec Ideal S2x369x768 .f32) (P : FVec Ideal S2x12x369x369 .f32) (n : Fin 2) (l : Fin 369) (d : Fin 768) :
    ctxs V P (ix3 n l d) = ∑ x : Fin 369, V (ix3 n x d) * P (ix4 n ⟨d.val / 64, by omega⟩ l x) := by
  pointwise [ctxs]

theorem ctx_at (Q K V : FVec Ideal S2x369x768 .f32) (mk : FVec Ideal S2x369 .f32) (n : Fin 2) (l : Fin 369) (d : Fin 768) :
    ctxs V (wts (exs (scr Q K mk))) (ix3 n l d) = Spec.ctx (fun x => (Ideal.ofBits .f32 0x3F800000#32 - mk (ix2 n x)) * Ideal.ofBits .f32 0xC61C4000#32)
      (fun l x => Q (ix3 n l x)) (fun l x => K (ix3 n l x)) (fun l x => V (ix3 n l x)) l d := by
  rw [ctxs_at]
  unfold Spec.ctx Spec.soft
  simp only [wts_at, exs_at, scr_at]
  exact Finset.sum_congr rfl fun x _ => mul_comm _ _

theorem avg_at (X : FVec Ideal S2x369x768 .f32) (n : Fin 2) (l : Fin 369) : avg X (ix3 n l 0) = Spec.mean (fun x => X (ix3 n l x)) := by
  pointwise [avg]
  rfl

theorem dev_at (X : FVec Ideal S2x369x768 .f32) (n : Fin 2) (l : Fin 369) (d : Fin 768) : dev X (ix3 n l d) = X (ix3 n l d) - Spec.mean (fun x => X (ix3 n l x)) := by
  pointwise [dev]
  rw [avg_at]

theorem nrm_at (X : FVec Ideal S2x369x768 .f32) (g b : FVec Ideal S768 .f32) (n : Fin 2) (l : Fin 369) (d : Fin 768) :
    nrm X g b (ix3 n l d) = Spec.norm (fun x => X (ix3 n l x)) (fun k => g (ix1 k)) (fun k => b (ix1 k)) d := by
  pointwise [nrm, rep]
  rw [avg_at, dev_at]
  unfold Spec.norm
  have e : (fun x => mulf (dev X) (dev X) (ix3 n l x)) = fun x => (X (ix3 n l x) - Spec.mean (fun x => X (ix3 n l x))) * (X (ix3 n l x) - Spec.mean (fun x => X (ix3 n l x))) := by
    funext x
    show dev X (ix3 n l x) * dev X (ix3 n l x) = _
    rw [dev_at]
  rw [e]

theorem clsf_at (X : FVec Ideal S2x369x768 .f32) (W : FVec Ideal S2x768 .f32) (b : FVec Ideal S2 .f32) (n : Fin 2) (l : Fin 369) (t : Fin 2) :
    clsf X W b (ix3 n l t) = (∑ k : Fin 768, X (ix3 n l k) * W (ix2 t k)) + b (ix1 t) := by
  pointwise [clsf]

theorem half0_at (X : FVec Ideal S2x369x768 .f32) (W : FVec Ideal S768x1536 .f32) (n : Fin 2) (l : Fin 369) (d : Fin 768) :
    half0 X W (ix3 n l d) = ∑ k : Fin 768, Ideal.tanh (X (ix3 n l k)) * W (ix2 d ⟨k.val, by omega⟩) := by
  pointwise [half0]

theorem half1_at (X : FVec Ideal S2x369x768 .f32) (W : FVec Ideal S768x1536 .f32) (n : Fin 2) (l : Fin 369) (d : Fin 768) :
    half1 X W (ix3 n l d) = ∑ k : Fin 768, Ideal.tanh (X (ix3 n l k)) * W (ix2 d ⟨768 + k.val, by omega⟩) := by
  pointwise [half1]

theorem pairs_at (R : FVec Ideal S12x768 .f32) (A B : FVec Ideal S2x369x768 .f32) (b : FVec Ideal S768 .f32) (n : Fin 2) (i : Fin 369) (r : Fin 12) (j : Fin 369) :
    pairs R A B b (ix4 n i r j) = ∑ x : Fin 768, R (ix2 r x) * Ideal.tanh (A (ix3 n j x) + B (ix3 n i x) + b (ix1 x)) := by
  pointwise [pairs]

/-- The attention layer at an entry. -/
theorem lay_at (Y : FVec Ideal S369x2x768 .f32) (mk : FVec Ideal S2x369 .f32) (Wq : FVec Ideal S768x768 .f32) (bq : FVec Ideal S768 .f32) (Wk : FVec Ideal S768x768 .f32) (bk : FVec Ideal S768 .f32)
    (Wv : FVec Ideal S768x768 .f32) (bv : FVec Ideal S768 .f32) (Wo : FVec Ideal S768x768 .f32) (bo g b : FVec Ideal S768 .f32) (n : Fin 2) (l : Fin 369) (d : Fin 768) :
    lay Y mk Wq bq Wk bk Wv bv Wo bo g b (ix3 n l d)
      = Spec.attn (fun l x => Y (ix3 l n x)) (fun x => (Ideal.ofBits .f32 0x3F800000#32 - mk (ix2 n x)) * Ideal.ofBits .f32 0xC61C4000#32)
          (fun k x => Wq (ix2 k x)) (fun k x => Wk (ix2 k x)) (fun k x => Wv (ix2 k x)) (fun k x => Wo (ix2 k x)) (fun k => bq (ix1 k)) (fun k => bk (ix1 k)) (fun k => bv (ix1 k)) (fun k => bo (ix1 k))
          (fun k => g (ix1 k)) (fun k => b (ix1 k)) l d := by
  unfold lay Spec.attn
  rw [nrm_at]
  have hT : ∀ (l : Fin 369) (x : Fin 768), transpose S2x369x768 [1, 0, 2] Y transposes_S369x2x768_S2x369x768_1_0_2 (ix3 n l x) = Y (ix3 l n x) := fun l x => by pointwise
  have hA : ∀ (X Z : FVec Ideal S2x369x768 .f32) (x : Fin 768), addf X Z (ix3 n l x) = X (ix3 n l x) + Z (ix3 n l x) := fun _ _ _ => rfl
  simp only [hA, prj_at, ctx_at, hT]

end Cert.ReferenceIdeal.RV

end
-- ==== Proof.RefVal.lean ====
/- The reference's results as the problem's mathematics of the arguments. -/
module

public import proofs.«01_k».proof.Proof.RefHid
public import proofs.«01_k».proof.Proof.RefOut

@[expose] public section

set_option maxRecDepth 16384

noncomputable section

namespace Cert.ReferenceIdeal.RH

open Idealize.ShloMosaic Idealize.ShloMosaic.TcCoe Idealize.SL.Sem
open Cert.ReferenceIdeal Cert.ReferenceIdeal.Gen Cert.ReferenceIdeal.Step
open Cert.ReferenceIdeal.RV hiding sig

variable (m : (ℓ : Loc nD τ sig) → Buf (Elt Ideal) ℓ) (c : Dev nD)
variable (it : ℕ → State Ideal) (h0 : it 0 = Cert.RefRun.initState m c) (hs : ∀ k, it (k + 1) = step k (it k))

include h0 hs

theorem att_at (n : Fin 2) (l : Fin 369) (d : Fin 768) :
    lay (it 369).main_v52_8 (g2 m c) (g9 m c) (g10 m c) (g11 m c) (g12 m c) (g13 m c) (g14 m c) (g15 m c) (g16 m c) (g17 m c) (g18 m c) (ix3 n l d) = Spec.att (args m c) n l d := by
  rw [lay_at]
  simp only [hid_at m c it h0 hs]
  rfl

theorem cls_at (n : Fin 2) (l : Fin 369) (t : Fin 2) :
    R_main_v130 (it 369) (g2 m c) (g9 m c) (g10 m c) (g11 m c) (g12 m c) (g13 m c) (g14 m c) (g15 m c) (g16 m c) (g17 m c) (g18 m c) (g19 m c) (g20 m c) (ix3 n l t) = Spec.classify (args m c) n l t := by
  rw [stage130, clsf_at]
  simp only [att_at m c it h0 hs]
  rfl

theorem left_at (n : Fin 2) (l : Fin 369) (d : Fin 768) :
    half0 (prj (lay (it 369).main_v52_8 (g2 m c) (g9 m c) (g10 m c) (g11 m c) (g12 m c) (g13 m c) (g14 m c) (g15 m c) (g16 m c) (g17 m c) (g18 m c)) (g22 m c) (g23 m c)) (g26 m c) (ix3 n l d) + g27 m c (ix1 d) = Spec.left (args m c) n l d := by
  rw [half0_at]
  simp only [prj_at, att_at m c it h0 hs]
  rfl

theorem right_at (n : Fin 2) (l : Fin 369) (d : Fin 768) :
    half1 (prj (lay (it 369).main_v52_8 (g2 m c) (g9 m c) (g10 m c) (g11 m c) (g12 m c) (g13 m c) (g14 m c) (g15 m c) (g16 m c) (g17 m c) (g18 m c)) (g24 m c) (g25 m c)) (g26 m c) (ix3 n l d) = Spec.right (args m c) n l d := by
  rw [half1_at]
  simp only [prj_at, att_at m c it h0 hs]
  rfl

theorem sel_at (n : Fin 2) (i : Fin 369) (r : Fin 12) (j : Fin 369) :
    R_main_v159 (it 369) (g2 m c) (g9 m c) (g10 m c) (g11 m c) (g12 m c) (g13 m c) (g14 m c) (g15 m c) (g16 m c) (g17 m c) (g18 m c) (g21 m c) (g22 m c) (g23 m c) (g24 m c) (g25 m c) (g26 m c) (g27 m c) (ix4 n i r j) = Spec.select (args m c) n i r j := by
  rw [stage159, pairs_at]
  refine Finset.sum_congr rfl fun x _ => congrArg (g21 m c (ix2 r x) * Ideal.tanh ·) ?_
  rw [add_right_comm, left_at m c it h0 hs, right_at m c it h0 hs]

end Cert.ReferenceIdeal.RH

end
-- ==== Proof.Alg.lean ====
/- The kernel and the reference leave the same results, both the problem's mathematics of the arguments. -/
module

public import proofs.«01_k».proof.Defs
public import proofs.«01_k».proof.Proof.Gen.Pre_finite_scores
public import proofs.«01_k».proof.Proof.KRun
public import proofs.«01_k».proof.Proof.KVal
public import proofs.«01_k».proof.Proof.PreRead
public import proofs.«01_k».proof.Proof.RefVal

@[expose] public section

set_option maxRecDepth 16384

noncomputable section

namespace Cert.Alg

open Idealize.ShloMosaic Idealize.ShloMosaic.TcCoe Idealize.SL.Sem
open Cert.KernelIdeal.Gen (W12)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The two memories hold the same arguments. -/
abbrev Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)

theorem args_eq (h : Same m m' c) : Cert.ReferenceIdeal.RH.args m' c = Cert.KernelIdeal.KV.args m c := by
  obtain ⟨e0, e1, e2, e3, e4, e5, e6, e7, e8, e9, e10, e11, e12, e13, e14, e15, e16, e17, e18, e19, e20, e21, e22, e23, e24, e25, e26, e27⟩ := h
  unfold Cert.ReferenceIdeal.RH.args Cert.KernelIdeal.KV.args
  simp only [Spec.Args.mk.injEq]
  exact ⟨funext fun _ => funext fun _ => funext fun _ => congrFun e0 _,
    funext fun _ => funext fun _ => congrFun e1 _,
    funext fun _ => funext fun _ => congrFun e2 _,
    funext fun _ => funext fun _ => congrFun e3 _,
    funext fun _ => congrFun e4 _,
    funext fun _ => funext fun _ => congrFun e5 _,
    funext fun _ => funext fun _ => congrFun e6 _,
    funext fun _ => congrFun e7 _,
    funext fun _ => congrFun e8 _,
    funext fun _ => funext fun _ => congrFun e9 _,
    funext fun _ => congrFun e10 _,
    funext fun _ => funext fun _ => congrFun e11 _,
    funext fun _ => congrFun e12 _,
    funext fun _ => funext fun _ => congrFun e13 _,
    funext fun _ => congrFun e14 _,
    funext fun _ => funext fun _ => congrFun e15 _,
    funext fun _ => congrFun e16 _,
    funext fun _ => congrFun e17 _,
    funext fun _ => congrFun e18 _,
    funext fun _ => funext fun _ => congrFun e19 _,
    funext fun _ => congrFun e20 _,
    funext fun _ => funext fun _ => congrFun e21 _,
    funext fun _ => funext fun _ => congrFun e22 _,
    funext fun _ => congrFun e23 _,
    funext fun _ => funext fun _ => congrFun e24 _,
    funext fun _ => congrFun e25 _,
    funext fun _ => funext fun _ => congrFun e26 _,
    funext fun _ => congrFun e27 _⟩

/-- The loop's states, from the first. -/
def states (c : Dev Cert.ReferenceIdeal.nD) : ℕ → Cert.ReferenceIdeal.Step.State Ideal
  | 0 => Cert.RefRun.initState m' c
  | k + 1 => Cert.ReferenceIdeal.Step.step k (states c k)

open Cert.ReferenceIdeal.RH in
theorem sel_eq (hf : Cert.Pre_KernelIdeal_finite_scores m) (h : Same m m' c) :
    Cert.ReferenceIdeal.Step.R_main_v159 (states m' c 369) (g2 m' c) (g9 m' c) (g10 m' c) (g11 m' c) (g12 m' c) (g13 m' c) (g14 m' c) (g15 m' c) (g16 m' c) (g17 m' c) (g18 m' c) (g21 m' c) (g22 m' c) (g23 m' c) (g24 m' c) (g25 m' c) (g26 m' c) (g27 m' c)
      = W12 m ρ c (Proc.devRef .tc Cert.KernelIdeal.main_v34) := by
  funext j
  rw [eq_ix4 j]
  exact (sel_at m' c (states m' c) rfl (fun _ => rfl) _ _ _ _).trans ((congrArg (Spec.select · _ _ _ _) (args_eq m m' c h)).trans
    (Cert.KernelIdeal.KV.sel_at m ρ c (Cert.Pre_finite_scores.PR.finite m hf c) _ _ _ _).symm)

open Cert.ReferenceIdeal.RH in
theorem cls_eq (hf : Cert.Pre_KernelIdeal_finite_scores m) (h : Same m m' c) :
    Cert.ReferenceIdeal.Step.R_main_v130 (states m' c 369) (g2 m' c) (g9 m' c) (g10 m' c) (g11 m' c) (g12 m' c) (g13 m' c) (g14 m' c) (g15 m' c) (g16 m' c) (g17 m' c) (g18 m' c) (g19 m' c) (g20 m' c)
      = W12 m ρ c (Proc.devRef .tc Cert.KernelIdeal.main_v35) := by
  funext j
  rw [eq_ix3 j]
  exact (cls_at m' c (states m' c) rfl (fun _ => rfl) _ _ _).trans ((congrArg (Spec.classify · _ _ _) (args_eq m m' c h)).trans
    (Cert.KernelIdeal.KV.cls_at m ρ c (Cert.Pre_finite_scores.PR.finite m hf c) _ _ _).symm)

/-- From memories with the same arguments, finite where the scores read them, the two programs end with the same results. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := fun m ρ m' ρ' hf hs =>
  ⟨fun c => W12 m ρ c (Proc.devRef .tc Cert.KernelIdeal.main_v34), fun c => W12 m ρ c (Proc.devRef .tc Cert.KernelIdeal.main_v35),
    (θ_run Cert.KernelIdeal.defs _ _).mono (fun _ h => h.1) (Cert.KernelIdeal.KR.run m ρ),
    (θ_run Cert.ReferenceIdeal.defs _ _).mono
      (fun _ h c => ⟨(h c).1.trans (sel_eq m ρ m' c hf (hs c)), (h c).2.1.trans (cls_eq m ρ m' c hf (hs c)), (h c).2.2⟩)
      (Cert.RefRun.run_iter m' ρ' (states m') (fun _ => rfl) (fun _ _ => rfl))⟩

end Cert.Alg

end
-- ==== Proof.lean ====
/- The certificate: the frames of the kernel, of its idealization and of the reference, the named constant, and the equality of
   the idealized kernel's results with the reference's. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores
public import proofs.«01_k».proof.Proof.Alg
public import Idealize.ShloMosaic.Adequacy
public import Idealize.ShloMosaic.Init

@[expose] public section

noncomputable section

namespace Cert.Proof

open Idealize.ShloMosaic Idealize.SL.Sem

/-- The reference runs, leaves its arguments as they were and its counters at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_finite_scores.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    IdealRules.named_const.statement Cert.KernelIdeal.κ "mask" .f32 0xCE6E6B28#32 ⊥ rfl, Cert.Alg.algebraic⟩

end Cert.Proof

end
